-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : FVec F S512x256 .f32) (main_arg1 : FVec F S256x64 .f32) (main_arg2 : IVec S512x1 32) (main_arg3 : FVec F S2x256x512 .f32) (main_arg4 : FVec F S256x512 .f32) : IVec S512x1 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  main_v4
-- ==== Pre_routed_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : FVec F S512x256 .f32) (main_arg1 : FVec F S256x64 .f32) (main_arg2 : IVec S512x1 32) (main_arg3 : FVec F S64x256x512 .f32) (main_arg4 : FVec F S256x512 .f32) : IVec S512x1 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  main_v4
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S512x64 : Shape := ⟨2, ![512, 64]⟩
abbrev S512 : Shape := ⟨1, ![512]⟩
abbrev S1x256x512 : Shape := ⟨3, ![1, 256, 512]⟩
abbrev S1 : Shape := ⟨1, ![1]⟩
abbrev S1x16x512 : Shape := ⟨3, ![1, 16, 512]⟩
abbrev S16x512 : Shape := ⟨2, ![16, 512]⟩
abbrev S16x256 : Shape := ⟨2, ![16, 256]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S512x512, .f32⟩
  | .local _ .vmem, ⟨7, _⟩ => ⟨S32x16x512, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let c0_i32_158 : BitVec 32 := 0#32
  ![v2.toNat, 0, 0]
def k0_off3 (d0 : Dev nD) (c1_i32_151 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v183 : BitVec 32 := Scalar.addi v2 c1_i32_151
  let c32_i32_152 : BitVec 32 := 32#32
  let v184 : BitVec 32 := Scalar.remsi v183 c32_i32_152
  let c16_i32_153 : BitVec 32 := 16#32
  let v185 : BitVec 32 := Scalar.muli v184 c16_i32_153
  let c0_i32_159 : BitVec 32 := 0#32
  ![v185.toNat, 0]
def k0_dev32 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_151 : BitVec 32 := 1#32
  let v183 : BitVec 32 := Scalar.addi v2 c1_i32_151
  let c32_i32_152 : BitVec 32 := 32#32
  let v184 : BitVec 32 := Scalar.remsi v183 c32_i32_152
  let c1_i32_155 : BitVec 32 := 1#32
  let v186 : BitVec 32 := Scalar.muli v184 c1_i32_155
  let v187 : BitVec 32 := Scalar.addi c0_i32_156 v186
  v187.toNat
def k0_dev33 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_160 : BitVec 32 := 2#32
  let v195 : BitVec 32 := Scalar.addi v2 c2_i32_160
  let c32_i32_161 : BitVec 32 := 32#32
  let v196 : BitVec 32 := Scalar.remsi v195 c32_i32_161
  let c1_i32_164 : BitVec 32 := 1#32
  let v198 : BitVec 32 := Scalar.muli v196 c1_i32_164
  let v199 : BitVec 32 := Scalar.addi c0_i32_165 v198
  v199.toNat
def k0_dev34 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_169 : BitVec 32 := 3#32
  let v207 : BitVec 32 := Scalar.addi v2 c3_i32_169
  let c32_i32_170 : BitVec 32 := 32#32
  let v208 : BitVec 32 := Scalar.remsi v207 c32_i32_170
  let c1_i32_173 : BitVec 32 := 1#32
  let v210 : BitVec 32 := Scalar.muli v208 c1_i32_173
  let v211 : BitVec 32 := Scalar.addi c0_i32_174 v210
  v211.toNat
def k0_dev35 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_178 : BitVec 32 := 4#32
  let v219 : BitVec 32 := Scalar.addi v2 c4_i32_178
  let c32_i32_179 : BitVec 32 := 32#32
  let v220 : BitVec 32 := Scalar.remsi v219 c32_i32_179
  let c1_i32_182 : BitVec 32 := 1#32
  let v222 : BitVec 32 := Scalar.muli v220 c1_i32_182
  let v223 : BitVec 32 := Scalar.addi c0_i32_183 v222
  v223.toNat
def k0_dev36 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_187 : BitVec 32 := 5#32
  let v231 : BitVec 32 := Scalar.addi v2 c5_i32_187
  let c32_i32_188 : BitVec 32 := 32#32
  let v232 : BitVec 32 := Scalar.remsi v231 c32_i32_188
  let c1_i32_191 : BitVec 32 := 1#32
  let v234 : BitVec 32 := Scalar.muli v232 c1_i32_191
  let v235 : BitVec 32 := Scalar.addi c0_i32_192 v234
  v235.toNat
def k0_dev37 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_196 : BitVec 32 := 6#32
  let v243 : BitVec 32 := Scalar.addi v2 c6_i32_196
  let c32_i32_197 : BitVec 32 := 32#32
  let v244 : BitVec 32 := Scalar.remsi v243 c32_i32_197
  let c1_i32_200 : BitVec 32 := 1#32
  let v246 : BitVec 32 := Scalar.muli v244 c1_i32_200
  let v247 : BitVec 32 := Scalar.addi c0_i32_201 v246
  v247.toNat
def k0_dev38 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_205 : BitVec 32 := 7#32
  let v255 : BitVec 32 := Scalar.addi v2 c7_i32_205
  let c32_i32_206 : BitVec 32 := 32#32
  let v256 : BitVec 32 := Scalar.remsi v255 c32_i32_206
  let c1_i32_209 : BitVec 32 := 1#32
  let v258 : BitVec 32 := Scalar.muli v256 c1_i32_209
  let v259 : BitVec 32 := Scalar.addi c0_i32_210 v258
  v259.toNat
def k0_dev39 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_214 : BitVec 32 := 8#32
  let v267 : BitVec 32 := Scalar.addi v2 c8_i32_214
  let c32_i32_215 : BitVec 32 := 32#32
  let v268 : BitVec 32 := Scalar.remsi v267 c32_i32_215
  let c1_i32_218 : BitVec 32 := 1#32
  let v270 : BitVec 32 := Scalar.muli v268 c1_i32_218
  let v271 : BitVec 32 := Scalar.addi c0_i32_219 v270
  v271.toNat
def k0_dev40 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_223 : BitVec 32 := 9#32
  let v279 : BitVec 32 := Scalar.addi v2 c9_i32_223
  let c32_i32_224 : BitVec 32 := 32#32
  let v280 : BitVec 32 := Scalar.remsi v279 c32_i32_224
  let c1_i32_227 : BitVec 32 := 1#32
  let v282 : BitVec 32 := Scalar.muli v280 c1_i32_227
  let v283 : BitVec 32 := Scalar.addi c0_i32_228 v282
  v283.toNat
def k0_dev41 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_232 : BitVec 32 := 10#32
  let v291 : BitVec 32 := Scalar.addi v2 c10_i32_232
  let c32_i32_233 : BitVec 32 := 32#32
  let v292 : BitVec 32 := Scalar.remsi v291 c32_i32_233
  let c1_i32_236 : BitVec 32 := 1#32
  let v294 : BitVec 32 := Scalar.muli v292 c1_i32_236
  let v295 : BitVec 32 := Scalar.addi c0_i32_237 v294
  v295.toNat
def k0_dev42 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_241 : BitVec 32 := 11#32
  let v303 : BitVec 32 := Scalar.addi v2 c11_i32_241
  let c32_i32_242 : BitVec 32 := 32#32
  let v304 : BitVec 32 := Scalar.remsi v303 c32_i32_242
  let c1_i32_245 : BitVec 32 := 1#32
  let v306 : BitVec 32 := Scalar.muli v304 c1_i32_245
  let v307 : BitVec 32 := Scalar.addi c0_i32_246 v306
  v307.toNat
def k0_dev43 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_250 : BitVec 32 := 12#32
  let v315 : BitVec 32 := Scalar.addi v2 c12_i32_250
  let c32_i32_251 : BitVec 32 := 32#32
  let v316 : BitVec 32 := Scalar.remsi v315 c32_i32_251
  let c1_i32_254 : BitVec 32 := 1#32
  let v318 : BitVec 32 := Scalar.muli v316 c1_i32_254
  let v319 : BitVec 32 := Scalar.addi c0_i32_255 v318
  v319.toNat
def k0_dev44 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_259 : BitVec 32 := 13#32
  let v327 : BitVec 32 := Scalar.addi v2 c13_i32_259
  let c32_i32_260 : BitVec 32 := 32#32
  let v328 : BitVec 32 := Scalar.remsi v327 c32_i32_260
  let c1_i32_263 : BitVec 32 := 1#32
  let v330 : BitVec 32 := Scalar.muli v328 c1_i32_263
  let v331 : BitVec 32 := Scalar.addi c0_i32_264 v330
  v331.toNat
def k0_dev45 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_268 : BitVec 32 := 14#32
  let v339 : BitVec 32 := Scalar.addi v2 c14_i32_268
  let c32_i32_269 : BitVec 32 := 32#32
  let v340 : BitVec 32 := Scalar.remsi v339 c32_i32_269
  let c1_i32_272 : BitVec 32 := 1#32
  let v342 : BitVec 32 := Scalar.muli v340 c1_i32_272
  let v343 : BitVec 32 := Scalar.addi c0_i32_273 v342
  v343.toNat
def k0_dev46 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_277 : BitVec 32 := 15#32
  let v351 : BitVec 32 := Scalar.addi v2 c15_i32_277
  let c32_i32_278 : BitVec 32 := 32#32
  let v352 : BitVec 32 := Scalar.remsi v351 c32_i32_278
  let c1_i32_281 : BitVec 32 := 1#32
  let v354 : BitVec 32 := Scalar.muli v352 c1_i32_281
  let v355 : BitVec 32 := Scalar.addi c0_i32_282 v354
  v355.toNat
def k0_dev47 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_286 : BitVec 32 := 16#32
  let v363 : BitVec 32 := Scalar.addi v2 c16_i32_286
  let c32_i32_287 : BitVec 32 := 32#32
  let v364 : BitVec 32 := Scalar.remsi v363 c32_i32_287
  let c1_i32_290 : BitVec 32 := 1#32
  let v366 : BitVec 32 := Scalar.muli v364 c1_i32_290
  let v367 : BitVec 32 := Scalar.addi c0_i32_291 v366
  v367.toNat
def k0_dev48 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_295 : BitVec 32 := 17#32
  let v375 : BitVec 32 := Scalar.addi v2 c17_i32_295
  let c32_i32_296 : BitVec 32 := 32#32
  let v376 : BitVec 32 := Scalar.remsi v375 c32_i32_296
  let c1_i32_299 : BitVec 32 := 1#32
  let v378 : BitVec 32 := Scalar.muli v376 c1_i32_299
  let v379 : BitVec 32 := Scalar.addi c0_i32_300 v378
  v379.toNat
def k0_dev49 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_304 : BitVec 32 := 18#32
  let v387 : BitVec 32 := Scalar.addi v2 c18_i32_304
  let c32_i32_305 : BitVec 32 := 32#32
  let v388 : BitVec 32 := Scalar.remsi v387 c32_i32_305
  let c1_i32_308 : BitVec 32 := 1#32
  let v390 : BitVec 32 := Scalar.muli v388 c1_i32_308
  let v391 : BitVec 32 := Scalar.addi c0_i32_309 v390
  v391.toNat
def k0_dev50 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_313 : BitVec 32 := 19#32
  let v399 : BitVec 32 := Scalar.addi v2 c19_i32_313
  let c32_i32_314 : BitVec 32 := 32#32
  let v400 : BitVec 32 := Scalar.remsi v399 c32_i32_314
  let c1_i32_317 : BitVec 32 := 1#32
  let v402 : BitVec 32 := Scalar.muli v400 c1_i32_317
  let v403 : BitVec 32 := Scalar.addi c0_i32_318 v402
  v403.toNat
def k0_dev51 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_322 : BitVec 32 := 20#32
  let v411 : BitVec 32 := Scalar.addi v2 c20_i32_322
  let c32_i32_323 : BitVec 32 := 32#32
  let v412 : BitVec 32 := Scalar.remsi v411 c32_i32_323
  let c1_i32_326 : BitVec 32 := 1#32
  let v414 : BitVec 32 := Scalar.muli v412 c1_i32_326
  let v415 : BitVec 32 := Scalar.addi c0_i32_327 v414
  v415.toNat
def k0_dev52 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_331 : BitVec 32 := 21#32
  let v423 : BitVec 32 := Scalar.addi v2 c21_i32_331
  let c32_i32_332 : BitVec 32 := 32#32
  let v424 : BitVec 32 := Scalar.remsi v423 c32_i32_332
  let c1_i32_335 : BitVec 32 := 1#32
  let v426 : BitVec 32 := Scalar.muli v424 c1_i32_335
  let v427 : BitVec 32 := Scalar.addi c0_i32_336 v426
  v427.toNat
def k0_dev53 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_340 : BitVec 32 := 22#32
  let v435 : BitVec 32 := Scalar.addi v2 c22_i32_340
  let c32_i32_341 : BitVec 32 := 32#32
  let v436 : BitVec 32 := Scalar.remsi v435 c32_i32_341
  let c1_i32_344 : BitVec 32 := 1#32
  let v438 : BitVec 32 := Scalar.muli v436 c1_i32_344
  let v439 : BitVec 32 := Scalar.addi c0_i32_345 v438
  v439.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_349 : BitVec 32 := 23#32
  let v447 : BitVec 32 := Scalar.addi v2 c23_i32_349
  let c32_i32_350 : BitVec 32 := 32#32
  let v448 : BitVec 32 := Scalar.remsi v447 c32_i32_350
  let c1_i32_353 : BitVec 32 := 1#32
  let v450 : BitVec 32 := Scalar.muli v448 c1_i32_353
  let v451 : BitVec 32 := Scalar.addi c0_i32_354 v450
  v451.toNat
def k0_dev55 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_358 : BitVec 32 := 24#32
  let v459 : BitVec 32 := Scalar.addi v2 c24_i32_358
  let c32_i32_359 : BitVec 32 := 32#32
  let v460 : BitVec 32 := Scalar.remsi v459 c32_i32_359
  let c1_i32_362 : BitVec 32 := 1#32
  let v462 : BitVec 32 := Scalar.muli v460 c1_i32_362
  let v463 : BitVec 32 := Scalar.addi c0_i32_363 v462
  v463.toNat
def k0_dev56 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v471 : BitVec 32 := Scalar.addi v2 c25_i32_367
  let c32_i32_368 : BitVec 32 := 32#32
  let v472 : BitVec 32 := Scalar.remsi v471 c32_i32_368
  let c1_i32_371 : BitVec 32 := 1#32
  let v474 : BitVec 32 := Scalar.muli v472 c1_i32_371
  let v475 : BitVec 32 := Scalar.addi c0_i32_372 v474
  v475.toNat
def k0_dev57 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_376 : BitVec 32 := 26#32
  let v483 : BitVec 32 := Scalar.addi v2 c26_i32_376
  let c32_i32_377 : BitVec 32 := 32#32
  let v484 : BitVec 32 := Scalar.remsi v483 c32_i32_377
  let c1_i32_380 : BitVec 32 := 1#32
  let v486 : BitVec 32 := Scalar.muli v484 c1_i32_380
  let v487 : BitVec 32 := Scalar.addi c0_i32_381 v486
  v487.toNat
def k0_dev58 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_385 : BitVec 32 := 27#32
  let v495 : BitVec 32 := Scalar.addi v2 c27_i32_385
  let c32_i32_386 : BitVec 32 := 32#32
  let v496 : BitVec 32 := Scalar.remsi v495 c32_i32_386
  let c1_i32_389 : BitVec 32 := 1#32
  let v498 : BitVec 32 := Scalar.muli v496 c1_i32_389
  let v499 : BitVec 32 := Scalar.addi c0_i32_390 v498
  v499.toNat
def k0_dev59 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_394 : BitVec 32 := 28#32
  let v507 : BitVec 32 := Scalar.addi v2 c28_i32_394
  let c32_i32_395 : BitVec 32 := 32#32
  let v508 : BitVec 32 := Scalar.remsi v507 c32_i32_395
  let c1_i32_398 : BitVec 32 := 1#32
  let v510 : BitVec 32 := Scalar.muli v508 c1_i32_398
  let v511 : BitVec 32 := Scalar.addi c0_i32_399 v510
  v511.toNat
def k0_dev60 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_403 : BitVec 32 := 29#32
  let v519 : BitVec 32 := Scalar.addi v2 c29_i32_403
  let c32_i32_404 : BitVec 32 := 32#32
  let v520 : BitVec 32 := Scalar.remsi v519 c32_i32_404
  let c1_i32_407 : BitVec 32 := 1#32
  let v522 : BitVec 32 := Scalar.muli v520 c1_i32_407
  let v523 : BitVec 32 := Scalar.addi c0_i32_408 v522
  v523.toNat
def k0_dev61 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_412 : BitVec 32 := 30#32
  let v531 : BitVec 32 := Scalar.addi v2 c30_i32_412
  let c32_i32_413 : BitVec 32 := 32#32
  let v532 : BitVec 32 := Scalar.remsi v531 c32_i32_413
  let c1_i32_416 : BitVec 32 := 1#32
  let v534 : BitVec 32 := Scalar.muli v532 c1_i32_416
  let v535 : BitVec 32 := Scalar.addi c0_i32_417 v534
  v535.toNat
def k0_dev62 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_421 : BitVec 32 := 31#32
  let v543 : BitVec 32 := Scalar.addi v2 c31_i32_421
  let c32_i32_422 : BitVec 32 := 32#32
  let v544 : BitVec 32 := Scalar.remsi v543 c32_i32_422
  let c1_i32_425 : BitVec 32 := 1#32
  let v546 : BitVec 32 := Scalar.muli v544 c1_i32_425
  let v547 : BitVec 32 := Scalar.addi c0_i32_426 v546
  v547.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_430 : BitVec 32 := 16#32
  let v555 : BitVec 32 := Scalar.muli v2 c16_i32_430
  let v556 : Index := Scalar.indexCast v555
  let c0_431 : Index := 0#32
  ![v556.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v558 : Index := Scalar.indexCast v2
  let c0_432 : Index := 0#32
  let c0_433 : Index := 0#32
  ![v558.toNat, 0, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_434 : BitVec 32 := 16#32
  let v562 : BitVec 32 := Scalar.muli v2 c16_i32_434
  let v563 : Index := Scalar.indexCast v562
  let c0_435 : Index := 0#32
  ![v563.toNat, 0]
def k0_off7 (d0 : Dev nD) (c1_i32_439 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v569 : BitVec 32 := Scalar.addi v2 c1_i32_439
  let c32_i32_440 : BitVec 32 := 32#32
  let v570 : BitVec 32 := Scalar.remsi v569 c32_i32_440
  ![v570.toNat]
def k0_off8 (d0 : Dev nD) (c1_i32_439 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v569 : BitVec 32 := Scalar.addi v2 c1_i32_439
  let c32_i32_440 : BitVec 32 := 32#32
  let v570 : BitVec 32 := Scalar.remsi v569 c32_i32_440
  let c0_i32_444 : BitVec 32 := 0#32
  let c0_i32_445 : BitVec 32 := 0#32
  ![v570.toNat, 0, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_727 : BitVec 32 := 16#32
  let v888 : BitVec 32 := Scalar.muli v2 c16_i32_727
  let c0_i32_731 : BitVec 32 := 0#32
  ![v888.toNat, 0]
def k0_dev63 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_724 : BitVec 32 := 1#32
  let v885 : BitVec 32 := Scalar.addi v2 c1_i32_724
  let c32_i32_725 : BitVec 32 := 32#32
  let v886 : BitVec 32 := Scalar.remsi v885 c32_i32_725
  let c1_i32_729 : BitVec 32 := 1#32
  let v889 : BitVec 32 := Scalar.muli v886 c1_i32_729
  let v890 : BitVec 32 := Scalar.addi c0_i32_730 v889
  v890.toNat
def k0_dev64 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_733 : BitVec 32 := 2#32
  let v897 : BitVec 32 := Scalar.addi v2 c2_i32_733
  let c32_i32_734 : BitVec 32 := 32#32
  let v898 : BitVec 32 := Scalar.remsi v897 c32_i32_734
  let c1_i32_738 : BitVec 32 := 1#32
  let v901 : BitVec 32 := Scalar.muli v898 c1_i32_738
  let v902 : BitVec 32 := Scalar.addi c0_i32_739 v901
  v902.toNat
def k0_dev65 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_742 : BitVec 32 := 3#32
  let v909 : BitVec 32 := Scalar.addi v2 c3_i32_742
  let c32_i32_743 : BitVec 32 := 32#32
  let v910 : BitVec 32 := Scalar.remsi v909 c32_i32_743
  let c1_i32_747 : BitVec 32 := 1#32
  let v913 : BitVec 32 := Scalar.muli v910 c1_i32_747
  let v914 : BitVec 32 := Scalar.addi c0_i32_748 v913
  v914.toNat
def k0_dev66 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_751 : BitVec 32 := 4#32
  let v921 : BitVec 32 := Scalar.addi v2 c4_i32_751
  let c32_i32_752 : BitVec 32 := 32#32
  let v922 : BitVec 32 := Scalar.remsi v921 c32_i32_752
  let c1_i32_756 : BitVec 32 := 1#32
  let v925 : BitVec 32 := Scalar.muli v922 c1_i32_756
  let v926 : BitVec 32 := Scalar.addi c0_i32_757 v925
  v926.toNat
def k0_dev67 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_760 : BitVec 32 := 5#32
  let v933 : BitVec 32 := Scalar.addi v2 c5_i32_760
  let c32_i32_761 : BitVec 32 := 32#32
  let v934 : BitVec 32 := Scalar.remsi v933 c32_i32_761
  let c1_i32_765 : BitVec 32 := 1#32
  let v937 : BitVec 32 := Scalar.muli v934 c1_i32_765
  let v938 : BitVec 32 := Scalar.addi c0_i32_766 v937
  v938.toNat
def k0_dev68 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_769 : BitVec 32 := 6#32
  let v945 : BitVec 32 := Scalar.addi v2 c6_i32_769
  let c32_i32_770 : BitVec 32 := 32#32
  let v946 : BitVec 32 := Scalar.remsi v945 c32_i32_770
  let c1_i32_774 : BitVec 32 := 1#32
  let v949 : BitVec 32 := Scalar.muli v946 c1_i32_774
  let v950 : BitVec 32 := Scalar.addi c0_i32_775 v949
  v950.toNat
def k0_dev69 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_778 : BitVec 32 := 7#32
  let v957 : BitVec 32 := Scalar.addi v2 c7_i32_778
  let c32_i32_779 : BitVec 32 := 32#32
  let v958 : BitVec 32 := Scalar.remsi v957 c32_i32_779
  let c1_i32_783 : BitVec 32 := 1#32
  let v961 : BitVec 32 := Scalar.muli v958 c1_i32_783
  let v962 : BitVec 32 := Scalar.addi c0_i32_784 v961
  v962.toNat
def k0_dev70 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_787 : BitVec 32 := 8#32
  let v969 : BitVec 32 := Scalar.addi v2 c8_i32_787
  let c32_i32_788 : BitVec 32 := 32#32
  let v970 : BitVec 32 := Scalar.remsi v969 c32_i32_788
  let c1_i32_792 : BitVec 32 := 1#32
  let v973 : BitVec 32 := Scalar.muli v970 c1_i32_792
  let v974 : BitVec 32 := Scalar.addi c0_i32_793 v973
  v974.toNat
def k0_dev71 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_796 : BitVec 32 := 9#32
  let v981 : BitVec 32 := Scalar.addi v2 c9_i32_796
  let c32_i32_797 : BitVec 32 := 32#32
  let v982 : BitVec 32 := Scalar.remsi v981 c32_i32_797
  let c1_i32_801 : BitVec 32 := 1#32
  let v985 : BitVec 32 := Scalar.muli v982 c1_i32_801
  let v986 : BitVec 32 := Scalar.addi c0_i32_802 v985
  v986.toNat
def k0_dev72 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_805 : BitVec 32 := 10#32
  let v993 : BitVec 32 := Scalar.addi v2 c10_i32_805
  let c32_i32_806 : BitVec 32 := 32#32
  let v994 : BitVec 32 := Scalar.remsi v993 c32_i32_806
  let c1_i32_810 : BitVec 32 := 1#32
  let v997 : BitVec 32 := Scalar.muli v994 c1_i32_810
  let v998 : BitVec 32 := Scalar.addi c0_i32_811 v997
  v998.toNat
def k0_dev73 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_814 : BitVec 32 := 11#32
  let v1005 : BitVec 32 := Scalar.addi v2 c11_i32_814
  let c32_i32_815 : BitVec 32 := 32#32
  let v1006 : BitVec 32 := Scalar.remsi v1005 c32_i32_815
  let c1_i32_819 : BitVec 32 := 1#32
  let v1009 : BitVec 32 := Scalar.muli v1006 c1_i32_819
  let v1010 : BitVec 32 := Scalar.addi c0_i32_820 v1009
  v1010.toNat
def k0_dev74 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_823 : BitVec 32 := 12#32
  let v1017 : BitVec 32 := Scalar.addi v2 c12_i32_823
  let c32_i32_824 : BitVec 32 := 32#32
  let v1018 : BitVec 32 := Scalar.remsi v1017 c32_i32_824
  let c1_i32_828 : BitVec 32 := 1#32
  let v1021 : BitVec 32 := Scalar.muli v1018 c1_i32_828
  let v1022 : BitVec 32 := Scalar.addi c0_i32_829 v1021
  v1022.toNat
def k0_dev75 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_832 : BitVec 32 := 13#32
  let v1029 : BitVec 32 := Scalar.addi v2 c13_i32_832
  let c32_i32_833 : BitVec 32 := 32#32
  let v1030 : BitVec 32 := Scalar.remsi v1029 c32_i32_833
  let c1_i32_837 : BitVec 32 := 1#32
  let v1033 : BitVec 32 := Scalar.muli v1030 c1_i32_837
  let v1034 : BitVec 32 := Scalar.addi c0_i32_838 v1033
  v1034.toNat
def k0_dev76 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_841 : BitVec 32 := 14#32
  let v1041 : BitVec 32 := Scalar.addi v2 c14_i32_841
  let c32_i32_842 : BitVec 32 := 32#32
  let v1042 : BitVec 32 := Scalar.remsi v1041 c32_i32_842
  let c1_i32_846 : BitVec 32 := 1#32
  let v1045 : BitVec 32 := Scalar.muli v1042 c1_i32_846
  let v1046 : BitVec 32 := Scalar.addi c0_i32_847 v1045
  v1046.toNat
def k0_dev77 (d0 : Dev nD) : Nat :=
  let c0_i32_856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_850 : BitVec 32 := 15#32
  let v1053 : BitVec 32 := Scalar.addi v2 c15_i32_850
  let c32_i32_851 : BitVec 32 := 32#32
  let v1054 : BitVec 32 := Scalar.remsi v1053 c32_i32_851
  let c1_i32_855 : BitVec 32 := 1#32
  let v1057 : BitVec 32 := Scalar.muli v1054 c1_i32_855
  let v1058 : BitVec 32 := Scalar.addi c0_i32_856 v1057
  v1058.toNat
def k0_dev78 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_859 : BitVec 32 := 16#32
  let v1065 : BitVec 32 := Scalar.addi v2 c16_i32_859
  let c32_i32_860 : BitVec 32 := 32#32
  let v1066 : BitVec 32 := Scalar.remsi v1065 c32_i32_860
  let c1_i32_864 : BitVec 32 := 1#32
  let v1069 : BitVec 32 := Scalar.muli v1066 c1_i32_864
  let v1070 : BitVec 32 := Scalar.addi c0_i32_865 v1069
  v1070.toNat
def k0_dev79 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_868 : BitVec 32 := 17#32
  let v1077 : BitVec 32 := Scalar.addi v2 c17_i32_868
  let c32_i32_869 : BitVec 32 := 32#32
  let v1078 : BitVec 32 := Scalar.remsi v1077 c32_i32_869
  let c1_i32_873 : BitVec 32 := 1#32
  let v1081 : BitVec 32 := Scalar.muli v1078 c1_i32_873
  let v1082 : BitVec 32 := Scalar.addi c0_i32_874 v1081
  v1082.toNat
def k0_dev80 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_877 : BitVec 32 := 18#32
  let v1089 : BitVec 32 := Scalar.addi v2 c18_i32_877
  let c32_i32_878 : BitVec 32 := 32#32
  let v1090 : BitVec 32 := Scalar.remsi v1089 c32_i32_878
  let c1_i32_882 : BitVec 32 := 1#32
  let v1093 : BitVec 32 := Scalar.muli v1090 c1_i32_882
  let v1094 : BitVec 32 := Scalar.addi c0_i32_883 v1093
  v1094.toNat
def k0_dev81 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_886 : BitVec 32 := 19#32
  let v1101 : BitVec 32 := Scalar.addi v2 c19_i32_886
  let c32_i32_887 : BitVec 32 := 32#32
  let v1102 : BitVec 32 := Scalar.remsi v1101 c32_i32_887
  let c1_i32_891 : BitVec 32 := 1#32
  let v1105 : BitVec 32 := Scalar.muli v1102 c1_i32_891
  let v1106 : BitVec 32 := Scalar.addi c0_i32_892 v1105
  v1106.toNat
def k0_dev82 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_895 : BitVec 32 := 20#32
  let v1113 : BitVec 32 := Scalar.addi v2 c20_i32_895
  let c32_i32_896 : BitVec 32 := 32#32
  let v1114 : BitVec 32 := Scalar.remsi v1113 c32_i32_896
  let c1_i32_900 : BitVec 32 := 1#32
  let v1117 : BitVec 32 := Scalar.muli v1114 c1_i32_900
  let v1118 : BitVec 32 := Scalar.addi c0_i32_901 v1117
  v1118.toNat
def k0_dev83 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_904 : BitVec 32 := 21#32
  let v1125 : BitVec 32 := Scalar.addi v2 c21_i32_904
  let c32_i32_905 : BitVec 32 := 32#32
  let v1126 : BitVec 32 := Scalar.remsi v1125 c32_i32_905
  let c1_i32_909 : BitVec 32 := 1#32
  let v1129 : BitVec 32 := Scalar.muli v1126 c1_i32_909
  let v1130 : BitVec 32 := Scalar.addi c0_i32_910 v1129
  v1130.toNat
def k0_dev84 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_913 : BitVec 32 := 22#32
  let v1137 : BitVec 32 := Scalar.addi v2 c22_i32_913
  let c32_i32_914 : BitVec 32 := 32#32
  let v1138 : BitVec 32 := Scalar.remsi v1137 c32_i32_914
  let c1_i32_918 : BitVec 32 := 1#32
  let v1141 : BitVec 32 := Scalar.muli v1138 c1_i32_918
  let v1142 : BitVec 32 := Scalar.addi c0_i32_919 v1141
  v1142.toNat
def k0_dev85 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_922 : BitVec 32 := 23#32
  let v1149 : BitVec 32 := Scalar.addi v2 c23_i32_922
  let c32_i32_923 : BitVec 32 := 32#32
  let v1150 : BitVec 32 := Scalar.remsi v1149 c32_i32_923
  let c1_i32_927 : BitVec 32 := 1#32
  let v1153 : BitVec 32 := Scalar.muli v1150 c1_i32_927
  let v1154 : BitVec 32 := Scalar.addi c0_i32_928 v1153
  v1154.toNat
def k0_dev86 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_931 : BitVec 32 := 24#32
  let v1161 : BitVec 32 := Scalar.addi v2 c24_i32_931
  let c32_i32_932 : BitVec 32 := 32#32
  let v1162 : BitVec 32 := Scalar.remsi v1161 c32_i32_932
  let c1_i32_936 : BitVec 32 := 1#32
  let v1165 : BitVec 32 := Scalar.muli v1162 c1_i32_936
  let v1166 : BitVec 32 := Scalar.addi c0_i32_937 v1165
  v1166.toNat
def k0_dev87 (d0 : Dev nD) : Nat :=
  let c0_i32_946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_940 : BitVec 32 := 25#32
  let v1173 : BitVec 32 := Scalar.addi v2 c25_i32_940
  let c32_i32_941 : BitVec 32 := 32#32
  let v1174 : BitVec 32 := Scalar.remsi v1173 c32_i32_941
  let c1_i32_945 : BitVec 32 := 1#32
  let v1177 : BitVec 32 := Scalar.muli v1174 c1_i32_945
  let v1178 : BitVec 32 := Scalar.addi c0_i32_946 v1177
  v1178.toNat
def k0_dev88 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_949 : BitVec 32 := 26#32
  let v1185 : BitVec 32 := Scalar.addi v2 c26_i32_949
  let c32_i32_950 : BitVec 32 := 32#32
  let v1186 : BitVec 32 := Scalar.remsi v1185 c32_i32_950
  let c1_i32_954 : BitVec 32 := 1#32
  let v1189 : BitVec 32 := Scalar.muli v1186 c1_i32_954
  let v1190 : BitVec 32 := Scalar.addi c0_i32_955 v1189
  v1190.toNat
def k0_dev89 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_958 : BitVec 32 := 27#32
  let v1197 : BitVec 32 := Scalar.addi v2 c27_i32_958
  let c32_i32_959 : BitVec 32 := 32#32
  let v1198 : BitVec 32 := Scalar.remsi v1197 c32_i32_959
  let c1_i32_963 : BitVec 32 := 1#32
  let v1201 : BitVec 32 := Scalar.muli v1198 c1_i32_963
  let v1202 : BitVec 32 := Scalar.addi c0_i32_964 v1201
  v1202.toNat
def k0_dev90 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_967 : BitVec 32 := 28#32
  let v1209 : BitVec 32 := Scalar.addi v2 c28_i32_967
  let c32_i32_968 : BitVec 32 := 32#32
  let v1210 : BitVec 32 := Scalar.remsi v1209 c32_i32_968
  let c1_i32_972 : BitVec 32 := 1#32
  let v1213 : BitVec 32 := Scalar.muli v1210 c1_i32_972
  let v1214 : BitVec 32 := Scalar.addi c0_i32_973 v1213
  v1214.toNat
def k0_dev91 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_976 : BitVec 32 := 29#32
  let v1221 : BitVec 32 := Scalar.addi v2 c29_i32_976
  let c32_i32_977 : BitVec 32 := 32#32
  let v1222 : BitVec 32 := Scalar.remsi v1221 c32_i32_977
  let c1_i32_981 : BitVec 32 := 1#32
  let v1225 : BitVec 32 := Scalar.muli v1222 c1_i32_981
  let v1226 : BitVec 32 := Scalar.addi c0_i32_982 v1225
  v1226.toNat
def k0_dev92 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_985 : BitVec 32 := 30#32
  let v1233 : BitVec 32 := Scalar.addi v2 c30_i32_985
  let c32_i32_986 : BitVec 32 := 32#32
  let v1234 : BitVec 32 := Scalar.remsi v1233 c32_i32_986
  let c1_i32_990 : BitVec 32 := 1#32
  let v1237 : BitVec 32 := Scalar.muli v1234 c1_i32_990
  let v1238 : BitVec 32 := Scalar.addi c0_i32_991 v1237
  v1238.toNat
def k0_dev93 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_994 : BitVec 32 := 31#32
  let v1245 : BitVec 32 := Scalar.addi v2 c31_i32_994
  let c32_i32_995 : BitVec 32 := 32#32
  let v1246 : BitVec 32 := Scalar.remsi v1245 c32_i32_995
  let c1_i32_999 : BitVec 32 := 1#32
  let v1249 : BitVec 32 := Scalar.muli v1246 c1_i32_999
  let v1250 : BitVec 32 := Scalar.addi c0_i32_1000 v1249
  v1250.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S256x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x64, .f32⟩
  | .hbm, ⟨16, _⟩ => ⟨S512x64, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x1x1, .i32⟩
  | .hbm, ⟨26, _⟩ => ⟨S1, .i32⟩
  | .hbm, ⟨27, _⟩ => ⟨S_, .i32⟩
  | .hbm, ⟨28, _⟩ => ⟨S512x1x1, .i32⟩
  | .hbm, ⟨29, _⟩ => ⟨S512x1x1, .i1⟩
  | .hbm, ⟨30, _⟩ => ⟨S1x1x1, .i32⟩
  | .hbm, ⟨31, _⟩ => ⟨S512x1x1, .i32⟩
  | .hbm, ⟨32, _⟩ => ⟨S512x1x1, .i1⟩
  | .hbm, ⟨33, _⟩ => ⟨S512x1x1, .i1⟩
  | .hbm, ⟨34, _⟩ => ⟨S_, .i1⟩
  | .hbm, ⟨35, _⟩ => ⟨S512x1, .i1⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

noncomputable section

namespace Cert.KernelIdeal.Moe

open Idealize.ShloMosaic Idealize.SL.Sem Cert.KernelIdeal Cert.KernelIdeal.Gen

variable {F : FTy → Type} [FloatOps F]

/-- The number of the device that is `k + 1` places after device `d0` on the ring, as the kernel computes it. -/
def peerN (d0 : Dev nD) (k : Fin 31) : Nat :=
  (Scalar.addi 0#32 (Scalar.muli (Scalar.remsi (Scalar.addi (Scalar.remsi (Scalar.divsi (Dev.word d0) 1#32) 32#32)
    (BitVec.ofNat 32 (1 + k.val))) 32#32) 1#32)).toNat

/-- The device `k + 1` places on, as the kernel computes its number. -/
theorem peerN_eq : ∀ (d0 : Dev nD) (k : Fin 31), peerN d0 k = (d0.val + k.val + 1) % 32 := by decide +kernel

/-- That number is a device's. -/
theorem peerN_lt (d0 : Dev nD) (k : Fin 31) : peerN d0 k < nD := by
  rw [peerN_eq]; exact Nat.mod_lt _ (by decide)

/-- The device that is `k + 1` places after device `d0`. -/
def peer (d0 : Dev nD) (k : Fin 31) : Dev nD := ⟨peerN d0 k, peerN_lt d0 k⟩

/-- Each step's place lies in an array of 32 semaphores. -/
theorem inb_sem (k : Fin 31) : ∀ a, (![k.val] : Fin 1 → Nat) a + S1.size a ≤ S32.size a := by
  revert k; decide

/-- The steps in the order the kernel takes them. -/
def steps : List (Fin 31) :=
  [0, 1, 2, 3, 4, 5, 6, 7, 8, 9, 10, 11, 12, 13, 14, 15, 16, 17, 18, 19, 20, 21, 22, 23, 24, 25, 26, 27, 28, 29, 30]

/-- `f` at each entry of a list, in order, and then `p`. -/
def each (f : Fin 31 → Prog (TpuEff nD τ sig (Elt F) Λ₀ .tc) PUnit)
    (p : Prog (TpuEff nD τ sig (Elt F) Λ₀ .tc) PUnit) : List (Fin 31) → Prog (TpuEff nD τ sig (Elt F) Λ₀ .tc) PUnit
  | [] => p
  | k :: l => (f k).bind fun _ => each f p l

section

variable (arg5 arg6 : Memref sig .tc .vmem S512x512 .f32) (arg7 : Memref sig .tc .vmem S32x16x512 .f32)
  (arg8 arg9 arg10 arg11 : DmaSems sig S32) (d0 : Dev nD)

/-- The semaphore at place `k` of an array of 32. -/
abbrev semAt (a : DmaSems sig S32) (k : Fin 31) : DmaSems sig S_ :=
  (a.slice (Rect.unit (s := S32) ![k.val] S1.size (inb_sem k))).squeeze S_ squeezes_S1_S_

/-- The semaphore of an array of 32 at the device's own place. -/
abbrev semOwn (a : DmaSems sig S32) : DmaSems sig S_ :=
  (a.slice (Rect.unit (s := S32) (k0_off1 d0) S1.size (k0_off1_inb d0))).squeeze S_ squeezes_S1_S_

/-- The semaphore of an array of 32 at the place of the device `k + 1` places after. -/
abbrev semPeer (a : DmaSems sig S32) (k : Fin 31) : DmaSems sig S_ :=
  (a.slice (Rect.unit (s := S32) (k0_off7 d0 (BitVec.ofNat 32 (1 + k.val))) S1.size (k0_off7_inb d0 k))).squeeze S_ squeezes_S1_S_

/-- The peer's rows of this device's share. -/
abbrev accPeer (k : Fin 31) : Memref sig .tc .vmem S16x512 .f32 :=
  arg6.slice (Rect.unit (s := S512x512) (k0_off3 d0 (BitVec.ofNat 32 (1 + k.val))) S16x512.size (k0_off3_inb d0 k)) (fun _ => rfl)

/-- This device's slab (on whichever device it is read). -/
abbrev rsOwn : Memref sig .tc .vmem S16x512 .f32 :=
  (arg7.slice (Rect.unit (s := S32x16x512) (k0_off2 d0) S1x16x512.size (k0_off2_inb d0)) (fun _ => rfl)).squeeze S16x512 squeezes_S1x16x512_S16x512

/-- The peer's slab. -/
abbrev rsPeer (k : Fin 31) : Memref sig .tc .vmem S16x512 .f32 :=
  (arg7.slice (Rect.unit (s := S32x16x512) (k0_off8 d0 (BitVec.ofNat 32 (1 + k.val))) S1x16x512.size (k0_off8_inb d0 k)) (fun _ => rfl)).squeeze S16x512 squeezes_S1x16x512_S16x512

/-- This device's own rows of the result. -/
abbrev outOwn : Memref sig .tc .vmem S16x512 .f32 :=
  arg5.slice (Rect.unit (s := S512x512) (k0_off9 d0) S16x512.size (k0_off9_inb d0)) (fun _ => rfl)

/-- The peer's rows of the result. -/
abbrev outPeer (k : Fin 31) : Memref sig .tc .vmem S16x512 .f32 :=
  arg5.slice (Rect.unit (s := S512x512) (k0_off3 d0 (BitVec.ofNat 32 (1 + k.val))) S16x512.size (k0_off3_inb d0 k)) (fun _ => rfl)

/-- Signal the peer's barrier. -/
def stepSignal (k : Fin 31) : Prog (TpuEff nD τ sig (Elt F) Λ₀ .tc) PUnit :=
  semSignalWord (peer d0 k) (SemArray.scalar (sig.barrier 0 rfl) : Sems sig S_).sem 1#32

/-- Start the copy of the peer's rows of the share into this device's slab at the peer. -/
def stepSendA (k : Fin 31) : Prog (TpuEff nD τ sig (Elt F) Λ₀ .tc) PUnit :=
  Prog.lift (.enqueueDma (accPeer arg6 d0 k) (.remote (Dev.tc (peer d0 k)) (rsOwn arg7 d0) (.dma (semAt arg8 k).sem))
    (.dma (semOwn d0 arg9).sem) (View.wordExact_bits rfl) ((View.wordExact_bits rfl).reshape _ _) ⟨⟨rfl, Or.inl rfl⟩, trivial⟩)

/-- Wait until the peer's share has arrived in its slab here. -/
def stepRecvA (k : Fin 31) : Prog (TpuEff nD τ sig (Elt F) Λ₀ .tc) PUnit :=
  Prog.lift (.waitDma2 (semPeer d0 arg9 k).sem (rsPeer arg7 d0 k) (rsPeer arg7 d0 k) ((View.wordExact_bits rfl).reshape _ _)
    ((View.wordExact_bits rfl).reshape _ _))

/-- Start the copy of this device's rows of the result into the peer's result. -/
def stepSendB (k : Fin 31) : Prog (TpuEff nD τ sig (Elt F) Λ₀ .tc) PUnit :=
  Prog.lift (.enqueueDma (outOwn arg5 d0) (.remote (Dev.tc (peer d0 k)) (outOwn arg5 d0) (.dma (semAt arg10 k).sem))
    (.dma (semOwn d0 arg11).sem) (View.wordExact_bits rfl) (View.wordExact_bits rfl) ⟨⟨rfl, Or.inl rfl⟩, trivial⟩)

/-- Wait until a copy of the first exchange has left. -/
def stepSentA (k : Fin 31) : Prog (TpuEff nD τ sig (Elt F) Λ₀ .tc) PUnit :=
  Prog.lift (.waitDma2 (semAt arg8 k).sem (rsOwn arg7 d0) (accPeer arg6 d0 k) ((View.wordExact_bits rfl).reshape _ _)
    (View.wordExact_bits rfl))

/-- Wait until the peer's rows of the result have arrived. -/
def stepRecvB (k : Fin 31) : Prog (TpuEff nD τ sig (Elt F) Λ₀ .tc) PUnit :=
  Prog.lift (.waitDma2 (semPeer d0 arg11 k).sem (outPeer arg5 d0 k) (outPeer arg5 d0 k) (View.wordExact_bits rfl)
    (View.wordExact_bits rfl))

/-- Wait until a copy of the second exchange has left. -/
def stepSentB (k : Fin 31) : Prog (TpuEff nD τ sig (Elt F) Λ₀ .tc) PUnit :=
  Prog.lift (.waitDma2 (semAt arg10 k).sem (outOwn arg5 d0) (outOwn arg5 d0) (View.wordExact_bits rfl)
    (View.wordExact_bits rfl))

end

/-- The word the kernel computes from a device's number before it uses it as the device's number. -/
def devWord (d0 : Dev nD) : BitVec 32 := Scalar.remsi (Scalar.divsi (Dev.word d0) 1#32) 32#32

/-- What a device stores of its two experts' share of the layer. -/
def accVal (d0 : Dev nD) (x : Vec F S512x256 .f32) (rw : Vec F S256x64 .f32) (ix : Vec F S512x1 .i32)
    (e0 e1 : Vec F S1x256x512 .f32) : FVec F S512x512 .f32 :=
  k0_pay6 (devWord d0) (k0_pay1 x) (k0_pay2 x rw) (k0_pay3 ix) (iota .tc S512x64 32 [1] iota_S512x64_d1_w32)
    (k0_pay4 (devWord d0) x rw) (k0_pay5 (devWord d0) ix) e0 e1

/-- The kernel's body, its unrolled loops written as loops. -/
def bodyOf (arg0 : Memref sig .tc .vmem S512x256 .f32) (arg1 : Memref sig .tc .vmem S256x64 .f32)
    (arg2 : Memref sig .tc .vmem S512x1 .i32) (arg3 : Memref sig .tc .vmem S2x256x512 .f32)
    (arg4 : Memref sig .tc .vmem S256x512 .f32) (arg5 arg6 : Memref sig .tc .vmem S512x512 .f32)
    (arg7 : Memref sig .tc .vmem S32x16x512 .f32) (arg8 arg9 arg10 arg11 : DmaSems sig S32) :
    Prog (TpuEff nD τ sig (Elt F) Λ₀ .tc) PUnit :=
  .op .deviceId fun (d0 : Dev nD) =>
  each (stepSignal d0) (
  (semWaitWord (SemArray.scalar (sig.barrier 0 rfl) : Sems sig S_).sem 31#32).bind fun _ =>
  .op (.load arg0 (Rect.unit (s := S512x256) ![0, 0] S512x256.size inb_S512x256_S512x256_0_0).toLoadRect (View.loadsAt_vmem h_S512x256)) fun (x : Vec F S512x256 .f32) =>
  .op (.load arg1 (Rect.unit (s := S256x64) ![0, 0] S256x64.size inb_S256x64_S256x64_0_0).toLoadRect (View.loadsAt_vmem h_S256x64)) fun (rw : Vec F S256x64 .f32) =>
  .op (.load arg2 (Rect.unit (s := S512x1) ![0, 0] S512x1.size inb_S512x1_S512x1_0_0).toLoadRect (View.loadsAt_vmem h_S512x1)) fun (ix : Vec F S512x1 .i32) =>
  .op (.load arg3 (Rect.unit (s := S2x256x512) ![0, 0, 0] S1x256x512.size inb_S2x256x512_S1x256x512_0_0_0).toLoadRect (View.loadsAt_vmem h_S1x256x512)) fun (e0 : Vec F S1x256x512 .f32) =>
  .op (.load arg3 (Rect.unit (s := S2x256x512) ![1, 0, 0] S1x256x512.size inb_S2x256x512_S1x256x512_1_0_0).toLoadRect (View.loadsAt_vmem h_S1x256x512)) fun (e1 : Vec F S1x256x512 .f32) =>
  .op (.load arg6 (Rect.unit (s := S512x512) ![0, 0] S512x512.size inb_S512x512_S512x512_0_0).toLoadRect (View.loadsAt_vmem h_S512x512)) fun (_ : Vec F S512x512 .f32) =>
  .op (.store arg6 (Rect.unit (s := S512x512) ![0, 0] S512x512.size inb_S512x512_S512x512_0_0) (accVal d0 x rw ix e0 e1) Finset.univ (View.stores_vmem_bits_univ h_S512x512 rfl) (.inl rfl)) fun _ =>
  each (stepSendA arg6 arg7 arg8 arg9 d0) (
  .op (.load arg6 (Rect.unit (s := S512x512) (k0_off4 d0) S16x512.size (k0_off4_inb d0)).toLoadRect (View.loadsAt_vmem h_S16x512)) fun (own : Vec F S16x512 .f32) =>
  .op (.load arg7 (Rect.unit (s := S32x16x512) (k0_off5 d0) S1x16x512.size (k0_off5_inb d0)).toLoadRect (View.loadsAt_vmem h_S1x16x512)) fun (_ : Vec F S1x16x512 .f32) =>
  .op (.store arg7 (Rect.unit (s := S32x16x512) (k0_off5 d0) S1x16x512.size (k0_off5_inb d0)) (k0_pay7 own) Finset.univ (View.stores_vmem_bits_univ h_S1x16x512 rfl) (.inl rfl)) fun _ =>
  .op (.load arg0 (Rect.unit (s := S512x256) (k0_off6 d0) S16x256.size (k0_off6_inb d0)).toLoadRect (View.loadsAt_vmem h_S16x256)) fun (xo : Vec F S16x256 .f32) =>
  .op (.load arg4 (Rect.unit (s := S256x512) ![0, 0] S256x512.size inb_S256x512_S256x512_0_0).toLoadRect (View.loadsAt_vmem h_S256x512)) fun (sw : Vec F S256x512 .f32) =>
  each (stepRecvA arg7 arg9 d0) (
  .op (.load arg7 (Rect.unit (s := S32x16x512) ![0, 0, 0] S32x16x512.size inb_S32x16x512_S32x16x512_0_0_0).toLoadRect (View.loadsAt_vmem h_S32x16x512)) fun (rs : Vec F S32x16x512 .f32) =>
  .op (.load arg5 (Rect.unit (s := S512x512) (k0_off4 d0) S16x512.size (k0_off4_inb d0)).toLoadRect (View.loadsAt_vmem h_S16x512)) fun (_ : Vec F S16x512 .f32) =>
  .op (.store arg5 (Rect.unit (s := S512x512) (k0_off4 d0) S16x512.size (k0_off4_inb d0)) (k0_pay9 (k0_pay8 xo sw) rs) Finset.univ (View.stores_vmem_bits_univ h_S16x512 rfl) (.inl rfl)) fun _ =>
  each (stepSendB arg5 arg10 arg11 d0) (
  each (stepSentA arg6 arg7 arg8 d0) (
  each (stepRecvB arg5 arg11 d0) (
  each (stepSentB arg5 arg10 d0) (.ret ⟨⟩) steps) steps) steps) steps) steps) steps) steps

set_option maxRecDepth 65536 in
/-- The printed body is the one with loops. -/
theorem body_eq (arg0 : Memref sig .tc .vmem S512x256 .f32) (harg0 : arg0.IsWhole) (arg1 : Memref sig .tc .vmem S256x64 .f32) (harg1 : arg1.IsWhole)
    (arg2 : Memref sig .tc .vmem S512x1 .i32) (harg2 : arg2.IsWhole) (arg3 : Memref sig .tc .vmem S2x256x512 .f32) (harg3 : arg3.IsWhole)
    (arg4 : Memref sig .tc .vmem S256x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S32x16x512 .f32) (harg7 : arg7.IsWhole)
    (arg8 arg9 arg10 arg11 : DmaSems sig S32) :
    cc0_body (F := F) arg0 harg0 arg1 harg1 arg2 harg2 arg3 harg3 arg4 harg4 arg5 harg5 arg6 harg6 arg7 harg7 arg8 arg9 arg10 arg11
      = bodyOf arg0 arg1 arg2 arg3 arg4 arg5 arg6 arg7 arg8 arg9 arg10 arg11 := rfl

end Cert.KernelIdeal.Moe
-- ==== Proof.Blocks.lean ====
module

public import proofs.«01_k».proof.Proof.Body
public import Idealize.ShloMosaic.Lib.Pipeline.ValueKit.Geometry
public import Idealize.ShloMosaic.Lib.Pointwise.Index
public import Idealize.ShloMosaic.Lib.Pipeline.Value

@[expose] public section

noncomputable section

namespace Cert.KernelIdeal.Moe

open Idealize.ShloMosaic Cert.KernelIdeal Cert.KernelIdeal.Gen

variable {F : FTy → Type} [FloatOps F]

/-! ## The ring of devices -/

/-- The number of a step's peer. -/
theorem peer_val (c : Dev nD) (k : Fin 31) : (peer c k).val = (c.val + k.val + 1) % 32 := peerN_eq c k

/-- Going `k + 1` places on and then `32 - (k + 1)` more comes back. -/
theorem peer_peer_rev (c : Dev nD) (k : Fin 31) : peer (peer c k) k.rev = c := by
  apply Fin.ext
  have hc : c.val < 32 := c.isLt
  have hk : k.val < 31 := k.isLt
  rw [peer_val, peer_val, Fin.val_rev]
  omega

/-- No device is its own peer. -/
theorem peer_ne (c : Dev nD) (k : Fin 31) : peer c k ≠ c := by
  intro h
  have h' := congrArg Fin.val h
  have hc : c.val < 32 := c.isLt
  have hk : k.val < 31 := k.isLt
  rw [peer_val] at h'
  omega

/-- A device's peers at different steps are different. -/
theorem peer_injective (c : Dev nD) : Function.Injective (peer c) := by
  intro k l h
  have h' := congrArg Fin.val h
  have hc : c.val < 32 := c.isLt
  have hk : k.val < 31 := k.isLt
  have hl : l.val < 31 := l.isLt
  rw [peer_val, peer_val] at h'
  exact Fin.ext (by omega)

/-- Devices with the same peer at a step are the same. -/
theorem peer_left_injective (k : Fin 31) : Function.Injective fun c => peer c k := by
  intro c d h
  have h' : peer c k = peer d k := h
  rw [← peer_peer_rev c k, ← peer_peer_rev d k, h']

/-- Every other device is a peer. -/
theorem exists_peer (c d : Dev nD) (h : d ≠ c) : ∃ k, peer c k = d := by
  have hc : c.val < 32 := c.isLt
  have hd : d.val < 32 := d.isLt
  have hne : d.val ≠ c.val := fun e => h (Fin.ext e)
  refine ⟨⟨(d.val + 31 - c.val) % 32, ?_⟩, Fin.ext ?_⟩
  · omega
  · rw [peer_val]
    show (c.val + (d.val + 31 - c.val) % 32 + 1) % 32 = d.val
    omega

/-! ## Rows and slabs -/

/-- The 16 rows of a 512 by 512 buffer that device `j` answers for. -/
def rows (j : Dev nD) : Finset S512x512.Idx := Finset.univ.filter fun i => (i 0).val / 16 = j.val

/-- The slab of the 32 by 16 by 512 buffer that device `j` fills. -/
def slab (j : Dev nD) : Finset S32x16x512.Idx := Finset.univ.filter fun i => (i 0).val = j.val

/-- A device's rows are the 16 whose number divided by 16 is its own. -/
theorem mem_rows {j : Dev nD} {i : S512x512.Idx} : i ∈ rows j ↔ (i 0).val / 16 = j.val := by
  unfold rows; rw [Finset.mem_filter]; exact ⟨fun h => h.2, fun h => ⟨Finset.mem_univ _, h⟩⟩

/-- A device's slab is the one of its number. -/
theorem mem_slab {j : Dev nD} {i : S32x16x512.Idx} : i ∈ slab j ↔ (i 0).val = j.val := by
  unfold slab; rw [Finset.mem_filter]; exact ⟨fun h => h.2, fun h => ⟨Finset.mem_univ _, h⟩⟩

/-- Two devices' rows are apart. -/
theorem rows_disjoint (a b : Dev nD) (h : a ≠ b) : Disjoint (rows a) (rows b) :=
  Finset.disjoint_left.mpr fun i ha hb => h (Fin.ext ((mem_rows.mp ha).symm.trans (mem_rows.mp hb)))

/-- Two devices' slabs are apart. -/
theorem slab_disjoint (a b : Dev nD) (h : a ≠ b) : Disjoint (slab a) (slab b) :=
  Finset.disjoint_left.mpr fun i ha hb => h (Fin.ext ((mem_slab.mp ha).symm.trans (mem_slab.mp hb)))

/-- A row's number divided by 16 is a device's. -/
theorem row_lt (i : S512x512.Idx) : (i 0).val / 16 < nD := by
  have h : (i 0).val < 512 := (i 0).isLt
  show (i 0).val / 16 < 32
  omega

/-- The device that answers for a row. -/
def ownerOf (i : S512x512.Idx) : Dev nD := ⟨(i 0).val / 16, row_lt i⟩

/-- An index's place among its owner's 16 rows. -/
def inBlock (i : S512x512.Idx) : S16x512.Idx :=
  ix2 (n0 := 16) (n1 := 512) ⟨(i 0).val % 16, Nat.mod_lt _ (by decide)⟩ (i 1)

/-- Every element is in some device's rows. -/
theorem rows_cover (i : S512x512.Idx) : ∃ j, i ∈ rows j := ⟨ownerOf i, mem_rows.mpr rfl⟩

/-- Every element is in some device's slab. -/
theorem slab_cover (i : S32x16x512.Idx) : ∃ j, i ∈ slab j := ⟨(i 0 : Fin 32), mem_slab.mpr rfl⟩

/-- Row `r` of the rows of device `j`, at column `o`. -/
def rowAt (j : Dev nD) (x : S16x512.Idx) : S512x512.Idx :=
  ix2 (n0 := 512) (n1 := 512) ⟨16 * j.val + (x 0).val, by
    have hj : j.val < 32 := j.isLt
    have hx : (x 0).val < 16 := (x 0).isLt
    omega⟩ (x 1)

/-- A place among device `j`'s rows belongs to device `j`. -/
theorem ownerOf_rowAt (j : Dev nD) (x : S16x512.Idx) : ownerOf (rowAt j x) = j := by
  apply Fin.ext
  have hx : (x 0).val < 16 := (x 0).isLt
  show (16 * j.val + (x 0).val) / 16 = j.val
  omega

/-- A place among device `j`'s rows is found there again. -/
theorem inBlock_rowAt (j : Dev nD) (x : S16x512.Idx) : inBlock (rowAt j x) = x := by
  have hx : (x 0).val < 16 := (x 0).isLt
  funext a
  match a with
  | ⟨0, _⟩ => exact Fin.ext (by show (16 * j.val + (x 0).val) % 16 = (x 0).val; omega)
  | ⟨1, _⟩ => rfl

/-- An index is its place among its owner's rows. -/
theorem rowAt_inBlock (i : S512x512.Idx) : rowAt (ownerOf i) (inBlock i) = i := by
  funext a
  match a with
  | ⟨0, _⟩ => exact Fin.ext (by show 16 * ((i 0).val / 16) + (i 0).val % 16 = (i 0).val; omega)
  | ⟨1, _⟩ => rfl

/-! ## The rectangles the kernel names -/

/-- A rectangle of 16 rows from row `16 j` covers device `j`'s rows. -/
theorem rect_rows_set (off : Fin 2 → Nat) (inb) (j : Dev nD) (h : off = ![16 * j.val, 0]) :
    (Rect.unit (s := S512x512) off S16x512.size inb).set = rows j := by
  subst h
  ext i
  rw [Rect.mem_set_unit, mem_rows]
  have h1 : (i 1).val < 512 := (i 1).isLt
  constructor
  · intro h
    have h0 := h 0
    change 16 * j.val ≤ (i 0).val ∧ (i 0).val < 16 * j.val + 16 at h0
    omega
  · intro h a
    match a with
    | ⟨0, _⟩ => show 16 * j.val ≤ (i 0).val ∧ (i 0).val < 16 * j.val + 16; omega
    | ⟨1, _⟩ => show 0 ≤ (i 1).val ∧ (i 1).val < 0 + 512; omega

/-- Where an element of that rectangle is in the whole array. -/
theorem rect_rows_emb (off : Fin 2 → Nat) (inb) (j : Dev nD) (h : off = ![16 * j.val, 0]) (x : S16x512.Idx) :
    (Rect.unit (s := S512x512) off S16x512.size inb).emb x = rowAt j x := by
  subst h
  funext a
  match a with
  | ⟨0, _⟩ => exact Fin.ext (ValueKit.rect_emb_unit_val _ _ inb x _)
  | ⟨1, _⟩ => exact Fin.ext ((ValueKit.rect_emb_unit_val _ _ inb x _).trans (Nat.zero_add _))

/-- A rectangle of one slab at `j` covers device `j`'s slab. -/
theorem rect_slab_set (off : Fin 3 → Nat) (inb) (j : Dev nD) (h : off = ![j.val, 0, 0]) :
    (Rect.unit (s := S32x16x512) off S1x16x512.size inb).set = slab j := by
  subst h
  ext i
  rw [Rect.mem_set_unit, mem_slab]
  have h1 : (i 1).val < 16 := (i 1).isLt
  have h2 : (i 2).val < 512 := (i 2).isLt
  constructor
  · intro h
    have h0 := h 0
    change j.val ≤ (i 0).val ∧ (i 0).val < j.val + 1 at h0
    omega
  · intro h a
    match a with
    | ⟨0, _⟩ => show j.val ≤ (i 0).val ∧ (i 0).val < j.val + 1; omega
    | ⟨1, _⟩ => show 0 ≤ (i 1).val ∧ (i 1).val < 0 + 16; omega
    | ⟨2, _⟩ => show 0 ≤ (i 2).val ∧ (i 2).val < 0 + 512; omega

/-- Place `x` of slab `j`. -/
def slabAt (j : Dev nD) (x : S16x512.Idx) : S32x16x512.Idx := ix3 (n0 := 32) (n1 := 16) (n2 := 512) j (x 0) (x 1)

/-- Where an element of that rectangle is among the slabs. -/
theorem rect_slab_emb (off : Fin 3 → Nat) (inb) (j : Dev nD) (h : off = ![j.val, 0, 0]) (x : S1x16x512.Idx) :
    (Rect.unit (s := S32x16x512) off S1x16x512.size inb).emb x = ix3 (n0 := 32) (n1 := 16) (n2 := 512) j (x 1) (x 2) := by
  subst h
  have h0 : (x 0).val < 1 := (x 0).isLt
  funext a
  match a with
  | ⟨0, _⟩ => exact Fin.ext ((ValueKit.rect_emb_unit_val _ _ inb x _).trans (by show j.val + (x 0).val = j.val; omega))
  | ⟨1, _⟩ => exact Fin.ext ((ValueKit.rect_emb_unit_val _ _ inb x _).trans (Nat.zero_add _))
  | ⟨2, _⟩ => exact Fin.ext ((ValueKit.rect_emb_unit_val _ _ inb x _).trans (Nat.zero_add _))

/-- A step's rows begin at its peer's. -/
theorem off3_peer (c : Dev nD) (k : Fin 31) : k0_off3 c (BitVec.ofNat 32 (1 + k.val)) = ![16 * (peer c k).val, 0] := by
  rw [k0_off3_eq, peer_val]
/-- A step's slab is its peer's. -/
theorem off8_peer (c : Dev nD) (k : Fin 31) : k0_off8 c (BitVec.ofNat 32 (1 + k.val)) = ![(peer c k).val, 0, 0] := by
  rw [k0_off8_eq, peer_val]

/-! ## The buffers the devices exchange -/

/-- The buffers that the exchanges read and write: the share, the slabs and the result. -/
abbrev accM : Memref sig .tc .vmem S512x512 .f32 := Memref.whole cc0_scratch0
abbrev rsM : Memref sig .tc .vmem S32x16x512 .f32 := Memref.whole cc0_scratch1
abbrev outM : Memref sig .tc .vmem S512x512 .f32 := Memref.whole cc0_stg5_0

section

variable (c : Dev nD) (k : Fin 31)

/-- The rows that a step sends are its peer's. -/
theorem accPeer_set : (accPeer accM c k).view.set = rows (peer c k) :=
  (View.set_slice_whole _ _).trans (rect_rows_set _ _ _ (off3_peer c k))
/-- The rows of the result that a step waits for are its peer's. -/
theorem outPeer_set : (outPeer outM c k).view.set = rows (peer c k) :=
  (View.set_slice_whole _ _).trans (rect_rows_set _ _ _ (off3_peer c k))
/-- The rows of the result that a device sends are its own. -/
theorem outOwn_set : (outOwn outM c).view.set = rows c :=
  (View.set_slice_whole _ _).trans (rect_rows_set _ _ _ (k0_off9_eq c))
/-- The slab that a device's copies fill is its own. -/
theorem rsOwn_set : (rsOwn rsM c).view.set = slab c :=
  (View.set_reshape _ _).trans ((View.set_slice_whole _ _).trans (rect_slab_set _ _ _ (k0_off2_eq c)))

/-- Where an element of the rows sent is in the share. -/
theorem accPeer_emb (x : S16x512.Idx) : (accPeer accM c k).view.emb x = rowAt (peer c k) x :=
  rect_rows_emb _ _ _ (off3_peer c k) x
/-- Where an element of a device's own rows is in the result. -/
theorem outOwn_emb (x : S16x512.Idx) : (outOwn outM c).view.emb x = rowAt c x :=
  rect_rows_emb _ _ _ (k0_off9_eq c) x
/-- Where an element of a device's slab is among the slabs. -/
theorem rsOwn_emb (x : S16x512.Idx) : (rsOwn rsM c).view.emb x = slabAt c x :=
  (congrArg _ (Shape.reshapeEquiv_cons_one _ x)).trans (rect_slab_emb _ _ _ (k0_off2_eq c) _)

end

/-! ## What the buffers hold -/

/-- What a device's slabs hold once every device's rows of `A` have arrived: slab `j` is what device `j` computed for
    the device's own rows. -/
def rsOf (A : Dev nD → Vec F S512x512 .f32) (n : Dev nD) : Vec F S32x16x512 .f32 := fun i =>
  A (i 0 : Fin 32) (rowAt n (ix2 (n0 := 16) (n1 := 512) (i 1) (i 2)))

/-- The whole result, put together from each device's 16 rows. -/
def outOf (P : Dev nD → Vec F S16x512 .f32) : Vec F S512x512 .f32 := fun i => P (ownerOf i) (inBlock i)

/-- A device's rows of its peer's share, sent to the peer's slab, land as that slab's contents. -/
theorem sentA (A : Dev nD → Vec F S512x512 .f32) (c : Dev nD) (k : Fin 31)
    (fd : (cc0_scratch1 : Ref sig .tc).ty.Contents (Elt F)) (i : S32x16x512.Idx) (hi : i ∈ slab c) :
    (rsOwn rsM c).view.write (Elt F) fd ((accPeer accM c k).view.read (Elt F) (A c)) Finset.univ i = rsOf A (peer c k) i := by
  rw [← rsOwn_set c] at hi
  obtain ⟨x, -, rfl⟩ := Finset.mem_map.mp hi
  rw [View.write_emb_of_mem _ _ (Finset.mem_univ _), rsOwn_emb]
  show A c ((accPeer accM c k).view.emb x) = _
  rw [accPeer_emb]
  rfl

/-- A device's rows of the result, sent to the same rows of another device, land as those rows. -/
theorem sentB (f fd : Vec F S512x512 .f32) (c : Dev nD) (i : S512x512.Idx) (hi : i ∈ rows c) :
    (outOwn outM c).view.write (Elt F) fd ((outOwn outM c).view.read (Elt F) f) Finset.univ i = f i := by
  rw [← outOwn_set c] at hi
  obtain ⟨x, -, rfl⟩ := Finset.mem_map.mp hi
  rw [View.write_emb_of_mem _ _ (Finset.mem_univ _)]
  rfl

/-- The rectangles the kernel loads and stores its own rows and its own slab by. -/
abbrev ownRect (c : Dev nD) : Rect S512x512 := Rect.unit (s := S512x512) (k0_off4 c) S16x512.size (k0_off4_inb c)
abbrev ownSlab (c : Dev nD) : Rect S32x16x512 := Rect.unit (s := S32x16x512) (k0_off5 c) S1x16x512.size (k0_off5_inb c)

/-- What is stored to a slab, at an index: the rows loaded. -/
theorem k0_pay7_apply (v : Vec F S16x512 .f32) (x : S1x16x512.Idx) :
    k0_pay7 v x = v (ix2 (n0 := 16) (n1 := 512) (x 1) (x 2)) :=
  (shapeCast_addUnit_apply ![16, 512] v _ x).trans (congrArg v (funext fun a => by
    match a with
    | ⟨0, _⟩ => rfl
    | ⟨1, _⟩ => rfl))

/-- The rows of the share that a device loads are its own. -/
theorem accM_access_set (c : Dev nD) : (accM.access (ownRect c)).set = rows c :=
  (View.set_slice_whole _ _).trans (rect_rows_set _ _ _ (k0_off4_eq c))
/-- The rows of the result that a device stores are its own. -/
theorem outM_access_set (c : Dev nD) : (outM.access (ownRect c)).set = rows c :=
  (View.set_slice_whole _ _).trans (rect_rows_set _ _ _ (k0_off4_eq c))
/-- The slab that a device stores is its own. -/
theorem rsM_access_set (c : Dev nD) : (rsM.access (ownSlab c)).set = slab c :=
  (View.set_slice_whole _ _).trans (rect_slab_set _ _ _ (k0_off5_eq c))

/-- The device's own rows of its share, stored to its own slab, are that slab's contents. -/
theorem storedA (A : Dev nD → Vec F S512x512 .f32) (c : Dev nD) (f : (cc0_scratch1 : Ref sig .tc).ty.Contents (Elt F))
    (i : S32x16x512.Idx) (hi : i ∈ slab c) :
    (rsM.access (ownSlab c)).write (Elt F) f (k0_pay7 (accM.view.readAt (Elt F) (ownRect c).toLoadRect (A c))) Finset.univ i = rsOf A c i := by
  rw [← rsM_access_set c] at hi
  obtain ⟨x, -, rfl⟩ := Finset.mem_map.mp hi
  rw [View.write_emb_of_mem _ _ (Finset.mem_univ _)]
  refine (cast_eq _ _).trans ((k0_pay7_apply _ _).trans ?_)
  rw [ show (rsM.access (ownSlab c)).emb x = _ from rect_slab_emb _ _ _ (k0_off5_eq c) x]
  show A c ((ownRect c).emb _) = _
  rw [rect_rows_emb _ _ _ (k0_off4_eq c)]
  rfl

/-- The device's 16 rows of the result, stored to its own rows, are those rows of the whole result. -/
theorem storedB (P : Dev nD → Vec F S16x512 .f32) (c : Dev nD) (f : Vec F S512x512 .f32) (i : S512x512.Idx) (hi : i ∈ rows c) :
    (outM.access (ownRect c)).write (Elt F) f (P c) Finset.univ i = outOf P i := by
  rw [← outM_access_set c] at hi
  obtain ⟨x, -, rfl⟩ := Finset.mem_map.mp hi
  rw [View.write_emb_of_mem _ _ (Finset.mem_univ _), show (outM.access (ownRect c)).emb x = _ from rect_rows_emb _ _ _ (k0_off4_eq c) x]
  show P c x = outOf P (rowAt c x)
  unfold outOf
  rw [ownerOf_rowAt, inBlock_rowAt]

end Cert.KernelIdeal.Moe
-- ==== Proof.Protocol.lean ====
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's own and one family of rounds whose duties are named by the kernel's steps. -/
abbrev UM : Type := URounds (GSem nD τ sig) (Fin 31)
abbrev UU : Type := UR sig nD τ × UM

local notation "𝕄" => MT nD τ sig Unit (Elt F) ℕ UU ℕ

/-- Where the pipeline's ghost state lies. -/
abbrev EP : Emb (UR sig nD τ) (MT nD τ sig Unit (Elt F) ℕ UU ℕ) := embL
abbrev ER : Emb UM (MT nD τ sig Unit (Elt F) ℕ UU ℕ) := embR

variable (m : (ℓ : Loc nD τ sig) → Buf (Elt F) ℓ)

/-! ## The cells -/

/-- The semaphore at place `j` of the `a`-th of the four arrays of 32. -/
def dcell (a : Fin 4) (j : Dev nD) : DmaSem sig := ⟨6 + 32 * a.val + j.val, by
  have ha := a.isLt
  have hj : j.val < 32 := j.isLt
  show 6 + 32 * a.val + j.val < 134
  omega⟩

/-- Which array a semaphore belongs to, and its place there. -/
def kindOf (q : DmaSem sig) : Nat := (q.val - 6) / 32
def placeOf (q : DmaSem sig) : Dev nD := ⟨(q.val - 6) % 32, Nat.mod_lt _ (by decide)⟩

/-- The array of a semaphore, read off its number. -/
theorem kindOf_dcell (a : Fin 4) (j : Dev nD) : kindOf (dcell a j) = a.val := by
  have hj : j.val < 32 := j.isLt
  show (6 + 32 * a.val + j.val - 6) / 32 = a.val
  omega
/-- The place of a semaphore, read off its number. -/
theorem placeOf_dcell (a : Fin 4) (j : Dev nD) : placeOf (dcell a j) = j := by
  have hj : j.val < 32 := j.isLt
  apply Fin.ext
  show (6 + 32 * a.val + j.val - 6) % 32 = j.val
  omega
/-- The four arrays come after the pipeline's six semaphores. -/
theorem dcell_ge (a : Fin 4) (j : Dev nD) : 6 ≤ (dcell a j).val := by
  show 6 ≤ 6 + 32 * a.val + j.val
  omega

/-- The barrier semaphore. -/
abbrev barS : Sem sig := (SemArray.scalar (sig.barrier 0 rfl) : Sems sig S_).sem
abbrev barCell (c : Dev nD) : GSem nD τ sig := ((c : Thread nD τ), .reg barS)
abbrev cell (a : Fin 4) (c j : Dev nD) : GSem nD τ sig := ((c : Thread nD τ), .dma (dcell a j))

/-- Each place lies in an array of 32 semaphores. -/
theorem inb_sem32 (j : Fin 32) : ∀ a, (![j.val] : Fin 1 → Nat) a + S1.size a ≤ S32.size a := by revert j; decide

/-- The four arrays lie one after another in the pool. -/
abbrev semsOf : Fin 4 → DmaSems sig S32
  | 0 => cc0_scratch2
  | 1 => cc0_scratch3
  | 2 => cc0_scratch4
  | 3 => cc0_scratch5

/-- One place of an array of semaphores is the semaphore of that number. -/
theorem sem_slice_lit : ∀ (a : Fin 4) (j : Fin 32),
    (((semsOf a).slice (Rect.unit (s := S32) ![j.val] S1.size (inb_sem32 j))).squeeze S_ squeezes_S1_S_).sem = dcell a j := by
  decide +kernel

/-- The same at an offset that is known only by an equation. -/
theorem sem_slice (a : Fin 4) (j : Dev nD) (off : Fin 1 → Nat) (inb) (h : off = ![j.val]) :
    (((semsOf a).slice (Rect.unit (s := S32) off S1.size inb)).squeeze S_ squeezes_S1_S_).sem = dcell a j := by
  subst h
  exact sem_slice_lit a j

/-- A step as a place of an array of 32. -/
def stepPlace (k : Fin 31) : Dev nD := ⟨k.val, Nat.lt_trans k.isLt (by decide)⟩

/-- The semaphore at a step's place. -/
theorem semAt_eq (a : Fin 4) (k : Fin 31) : (semAt (semsOf a) k).sem = dcell a (stepPlace k) :=
  sem_slice a (stepPlace k) _ _ rfl
/-- The semaphore at the device's own place. -/
theorem semOwn_eq (a : Fin 4) (c : Dev nD) : (semOwn c (semsOf a)).sem = dcell a c :=
  sem_slice a c _ _ (k0_off1_eq c)
/-- The semaphore at the peer's place. -/
theorem semPeer_eq (a : Fin 4) (c : Dev nD) (k : Fin 31) : (semPeer c (semsOf a) k).sem = dcell a (peer c k) :=
  sem_slice a (peer c k) _ _ (by rw [k0_off7_eq, peer_val])

/-- What one transfer of 16 rows credits. -/
@[irreducible] def N : ℕ := (outOwn outM 0).view.dmaCredit
theorem N_pos : 0 < N := by unfold N; exact View.dmaCredit_pos _ (by decide)

/-- A copy of a device's rows of the result credits as much as every other copy. -/
theorem credit_outOwn (c : Dev nD) : (outOwn outM c).view.dmaCredit = N := by unfold N; rfl
theorem credit_outPeer (c : Dev nD) (k : Fin 31) : (outPeer outM c k).view.dmaCredit = N := by unfold N; rfl
theorem credit_accPeer (c : Dev nD) (k : Fin 31) : (accPeer accM c k).view.dmaCredit = N := by unfold N; rfl
theorem credit_rsOwn (c : Dev nD) : (rsOwn rsM c).view.dmaCredit = N := by unfold N; rfl
theorem credit_rsPeer (c : Dev nD) (k : Fin 31) : (rsPeer rsM c k).view.dmaCredit = N := by unfold N; rfl

/-! ## The contents -/

/-- The staging buffers of the five operands. -/
abbrev xM : Memref sig .tc .vmem S512x256 .f32 := Memref.whole cc0_stg0_0
abbrev rwM : Memref sig .tc .vmem S256x64 .f32 := Memref.whole cc0_stg1_0
abbrev ixM : Memref sig .tc .vmem S512x1 .i32 := Memref.whole cc0_stg2_0
abbrev ewM : Memref sig .tc .vmem S2x256x512 .f32 := Memref.whole cc0_stg3_0
abbrev swM : Memref sig .tc .vmem S256x512 .f32 := Memref.whole cc0_stg4_0

/-- A device's operands as they lie in the kernel's memory. -/
def xC (c : Dev nD) : (cc0_stg0_0 : Ref sig .tc).ty.Contents (Elt F) := (win0_0.blk (0 : Fin 1)).view.read (Elt F) (m ((c : Thread nD τ).loc main_arg0))
def rwC (c : Dev nD) : (cc0_stg1_0 : Ref sig .tc).ty.Contents (Elt F) := (win0_1.blk (0 : Fin 1)).view.read (Elt F) (m ((c : Thread nD τ).loc main_arg1))
def ixC (c : Dev nD) : (cc0_stg2_0 : Ref sig .tc).ty.Contents (Elt F) := (win0_2.blk (0 : Fin 1)).view.read (Elt F) (m ((c : Thread nD τ).loc main_arg2))
def ewC (c : Dev nD) : (cc0_stg3_0 : Ref sig .tc).ty.Contents (Elt F) := (win0_3.blk (0 : Fin 1)).view.read (Elt F) (m ((c : Thread nD τ).loc main_arg3))
def swC (c : Dev nD) : (cc0_stg4_0 : Ref sig .tc).ty.Contents (Elt F) := (win0_4.blk (0 : Fin 1)).view.read (Elt F) (m ((c : Thread nD τ).loc main_arg4))

/-- The first and the second of a device's two matrices, and its own 16 tokens. -/
abbrev ewRect0 : Rect S2x256x512 := Rect.unit (s := S2x256x512) ![0, 0, 0] S1x256x512.size inb_S2x256x512_S1x256x512_0_0_0
abbrev ewRect1 : Rect S2x256x512 := Rect.unit (s := S2x256x512) ![1, 0, 0] S1x256x512.size inb_S2x256x512_S1x256x512_1_0_0
abbrev xoRect (c : Dev nD) : Rect S512x256 := Rect.unit (s := S512x256) (k0_off6 c) S16x256.size (k0_off6_inb c)

/-- A device's experts' share of the layer, over all rows. -/
def accB (c : Dev nD) : Vec F S512x512 .f32 :=
  accVal c (xC m c) (rwC m c) (ixC m c) (ewM.view.readAt (Elt F) ewRect0.toLoadRect (ewC m c)) (ewM.view.readAt (Elt F) ewRect1.toLoadRect (ewC m c))

/-- A device's slabs once all shares of its rows have arrived. -/
def rsB (c : Dev nD) : Vec F S32x16x512 .f32 := rsOf (accB m) c

/-- A device's own 16 rows of the result. -/
def partB (c : Dev nD) : Vec F S16x512 .f32 :=
  k0_pay9 (k0_pay8 (xM.view.readAt (Elt F) (xoRect c).toLoadRect (xC m c)) (swC m c)) (rsB m c)

/-- The result: the same on every device. -/
def outB : Vec F S512x512 .f32 := outOf (partB m)

/-- The buffers of the exchanges on device `c`. -/
abbrev accLoc (c : Dev nD) : Loc nD τ sig := (c : Thread nD τ).loc cc0_scratch0
abbrev rsLoc (c : Dev nD) : Loc nD τ sig := (c : Thread nD τ).loc cc0_scratch1
abbrev outLoc (c : Dev nD) : Loc nD τ sig := (c : Thread nD τ).loc cc0_stg5_0

/-! ## The schedule -/

/-- What device `d` lends device `n` before the exchange: the slab of `d` that `n` fills, and the rows of `d`'s result
    that `n` answers for. -/
def barPay (d n : Dev nD) : sProp 𝕄 :=
  iprop((∃ f : Buf (Elt F) (rsLoc d), rsLoc d ↦[slab n]{fullShare} f) ∗ (∃ f : Buf (Elt F) (outLoc d), outLoc d ↦[rows n]{fullShare} f))

/-- What device `c` takes from the semaphore at place `j` of its array `a`: from the first, the rows it sent; from the
    second, a filled slab; from the third, a share of its own rows of the result; from the fourth, device `j`'s rows of it. -/
def dmaPay (c : Dev nD) (a : Nat) (j : Dev nD) : sProp 𝕄 :=
  match a with
  | 0 => accLoc c ↦[rows ⟨(c.val + j.val + 1) % 32, Nat.mod_lt _ (by decide)⟩]{fullShare} accB m c
  | 1 => rsLoc c ↦[slab j]{fullShare} rsB m c
  | 2 => outLoc c ↦[rows c]{Transfers.shareTokN fullShare j.val} outB m
  | _ => outLoc c ↦[rows j]{fullShare} outB m

/-- What a barrier's unit hands over may be kept in an invariant, -/
instance barPay_storable (d n : Dev nD) : BI.Storable (upEmb : UEmb _ 𝕄) (barPay (F := F) d n) := by unfold barPay; infer_instance
/-- and so may what a copy hands over. -/
instance dmaPay_storable (c : Dev nD) (a : Nat) (j : Dev nD) : BI.Storable (upEmb : UEmb _ 𝕄) (dmaPay (F := F) m c a j) := by
  unfold dmaPay; split <;> infer_instance

/-- The semaphores that take part: the first and third array at each step's place, the others at the other devices'. -/
def live (c : Dev nD) (a : Nat) (j : Dev nD) : Prop := if a % 2 = 0 then j.val < 31 else j ≠ c

instance (c : Dev nD) (a : Nat) (j : Dev nD) : Decidable (live c a j) := by unfold live; infer_instance

/-- One round: each barrier cell expects one unit from each other device, each live semaphore one transfer. -/
def moeRd : Rounds.Schedule (GSem nD τ sig) (Fin 31) 𝕄 where
  duties g r := match g.2 with
    | .reg _ => if r = 0 ∧ g.1.2 = .tc then Finset.univ else ∅
    | .dma q => if r = 0 ∧ g.1.2 = .tc ∧ 6 ≤ q.val ∧ live g.1.1 (kindOf q) (placeOf q) then {0} else ∅
  unitless _ := False
  amount g _ _ := match g.2 with
    | .reg _ => 1
    | .dma _ => N
  payload g _ k := match g.2 with
    | .reg _ => barPay (peer g.1.1 k) g.1.1
    | .dma q => dmaPay m g.1.1 (kindOf q) (placeOf q)
  amount_pos g _ _ _ := by
    obtain ⟨t, s⟩ := g
    cases s with
    | reg s => exact Nat.one_pos
    | dma q => exact N_pos

/-- Every payload of the schedule may be kept in an invariant. -/
instance moeRd_payload_storable (g : GSem nD τ sig) (r : ℕ) (d : Fin 31) :
    BI.Storable (upEmb : UEmb _ 𝕄) ((moeRd (F := F) m).payload g r d) := by
  obtain ⟨t, s⟩ := g
  cases s with
  | reg s => exact barPay_storable _ _
  | dma q => exact dmaPay_storable _ _ _ _

section Sched

variable (c : Dev nD)

/-- All 31 other devices owe a barrier its round. -/
theorem duties_bar : (moeRd (F := F) m).duties (barCell c) 0 = Finset.univ := by
  show (if (0 : ℕ) = 0 ∧ (barCell c).1.2 = .tc then (Finset.univ : Finset (Fin 31)) else ∅) = _
  exact if_pos ⟨rfl, rfl⟩

/-- A semaphore that takes part is owed one transfer, -/
theorem duties_cell (a : Fin 4) (j : Dev nD) (h : live c a.val j) : (moeRd (F := F) m).duties (cell a c j) 0 = {0} :=
  if_pos ⟨rfl, rfl, dcell_ge a j, by rw [kindOf_dcell, placeOf_dcell]; exact h⟩

/-- one that does not take part is owed nothing, -/
theorem duties_idle (a : Fin 4) (j : Dev nD) (h : ¬ live c a.val j) (r : ℕ) : (moeRd (F := F) m).duties (cell a c j) r = ∅ :=
  if_neg fun h' => h (by have h4 := h'.2.2.2; rw [kindOf_dcell, placeOf_dcell] at h4; exact h4)

/-- and after the one round nothing is owed. -/
theorem duties_later (g : GSem nD τ sig) (r : ℕ) (hr : 1 ≤ r) : (moeRd (F := F) m).duties g r = ∅ := by
  obtain ⟨t, s⟩ := g
  have hn : r ≠ 0 := Nat.pos_iff_ne_zero.mp hr
  cases s with
  | reg s => exact if_neg fun h => hn h.1
  | dma q => exact if_neg fun h => hn h.1

/-- A signal is one unit. -/
theorem amount_bar (d : Fin 31) : (moeRd (F := F) m).amount (barCell c) 0 d = 1 := rfl
/-- A transfer is `N` units. -/
theorem amount_cell (a : Fin 4) (j : Dev nD) (d : Fin 31) : (moeRd (F := F) m).amount (cell a c j) 0 d = N := rfl

/-- What a signal hands over. -/
theorem payload_bar (d : Fin 31) : (moeRd (F := F) m).payload (barCell c) 0 d = barPay (peer c d) c := rfl
/-- What a transfer hands over. -/
theorem payload_cell (a : Fin 4) (j : Dev nD) (d : Fin 31) : (moeRd (F := F) m).payload (cell a c j) 0 d = dmaPay m c a.val j := by
  show dmaPay m c (kindOf (dcell a j)) (placeOf (dcell a j)) = _
  rw [kindOf_dcell, placeOf_dcell]

/-- A barrier's round is 31 units. -/
theorem expect_bar : (moeRd (F := F) m).expect (barCell c) 0 = 31 := by
  unfold Schedule.expect Schedule.amountOf
  rw [duties_bar, Finset.sum_congr rfl fun d _ => amount_bar m c d, Finset.sum_const, Finset.card_univ, Fintype.card_fin, smul_eq_mul]
/-- A semaphore's round is one transfer's units. -/
theorem expect_cell (a : Fin 4) (j : Dev nD) (h : live c a.val j) : (moeRd (F := F) m).expect (cell a c j) 0 = N := by
  unfold Schedule.expect Schedule.amountOf
  rw [duties_cell m c a j h, Finset.sum_singleton, amount_cell]

/-- What a whole wait at a barrier takes. -/
theorem rest_bar : bigSep ((moeRd (F := F) m).duties (barCell c) 0 \ ∅) (fun d => (moeRd (F := F) m).payload (barCell c) 0 d)
    = bigSep Finset.univ fun k : Fin 31 => barPay (peer c k) c := by
  rw [Finset.sdiff_empty, duties_bar]; rfl
/-- What a whole wait at a semaphore takes. -/
theorem rest_cell (a : Fin 4) (j : Dev nD) (h : live c a.val j) :
    bigSep ((moeRd (F := F) m).duties (cell a c j) 0 \ ∅) (fun d => (moeRd (F := F) m).payload (cell a c j) 0 d) = dmaPay m c a.val j := by
  rw [Finset.sdiff_empty, duties_cell m c a j h, bigSep_singleton, payload_cell]

/-- The semaphores that the steps use take part. -/
theorem live_step0 (k : Fin 31) : live c 0 (stepPlace k) := k.isLt
theorem live_step2 (k : Fin 31) : live c 2 (stepPlace k) := k.isLt
theorem live_peer1 (k : Fin 31) : live c 1 (peer c k) := peer_ne c k
theorem live_peer3 (k : Fin 31) : live c 3 (peer c k) := peer_ne c k
theorem live_at1 (k : Fin 31) : live (peer c k) 1 c := (peer_ne c k).symm
theorem live_at3 (k : Fin 31) : live (peer c k) 3 c := (peer_ne c k).symm

end Sched

/-! ## What each device owes -/

/-- Units by semaphore. -/
abbrev CT : Type := CellTallies nD τ sig Unit

/-- What a device owes the device `k + 1` places on: a unit of its barrier, and the two transfers. -/
abbrev owedS (c : Dev nD) (k : Fin 31) : CT := tallyAt (barCell (peer c k)) () 1
abbrev owedA (c : Dev nD) (k : Fin 31) : CT := tallyAt (cell 1 (peer c k) c) () N
abbrev owedB (c : Dev nD) (k : Fin 31) : CT := tallyAt (cell 3 (peer c k) c) () N

/-- What is owed over a list of steps. -/
def sumT (f : Fin 31 → CT) (l : List (Fin 31)) : CT := (l.map f).sum

/-- Over no steps nothing is owed; -/
theorem sumT_nil (f : Fin 31 → CT) : sumT f [] = 0 := rfl
/-- one step more owes its own besides. -/
theorem sumT_cons (f : Fin 31 → CT) (k : Fin 31) (l : List (Fin 31)) : sumT f (k :: l) = sumT f l + f k := by
  unfold sumT; rw [List.map_cons, List.sum_cons, add_comm]

/-- The steps are 0 to 30. -/
theorem steps_eq : steps = List.finRange 31 := by decide

/-- Over all steps it is a plain sum. -/
theorem sumT_steps (f : Fin 31 → CT) : sumT f steps = ∑ k, f k := by
  unfold sumT; rw [steps_eq, Fin.sum_univ_def]

/-- At launch a device owes all of it; the signals are paid first, then the first exchange, then the second. -/
def O₀ (c : Dev nD) : CT := (sumT (owedB c) steps + sumT (owedA c) steps) + sumT (owedS c) steps

/-- What is owed over a list is owed at some step of it. -/
theorem sumT_pos {f : Fin 31 → CT} {l : List (Fin 31)} {g : GSem nD τ sig} {u : Unit} (h : 0 < sumT f l g u) :
    ∃ k, 0 < f k g u := by
  induction l with
  | nil => exact absurd h (Nat.lt_irrefl 0)
  | cons k l ih =>
    rw [sumT_cons, Pi.add_apply, Finsupp.add_apply] at h
    rcases Nat.eq_zero_or_pos (f k g u) with h0 | h0
    · rw [h0, Nat.add_zero] at h; exact ih h
    · exact ⟨k, h0⟩

/-- What is owed to one semaphore is owed to that one alone. -/
theorem tallyAt_pos {g g' : GSem nD τ sig} {n : ℕ} {u : Unit} (h : 0 < (tallyAt g () n : CT) g' u) : g' = g := by
  rw [tallyAt_apply] at h
  by_contra hn
  rw [if_neg fun h' => hn h'.1] at h
  exact Nat.lt_irrefl 0 h

/-! ## The order of waits -/

/-- The semaphores that have a level: those of the devices' cores. -/
def L (g : GSem nD τ sig) : Finset Unit := if g.1.2 = .tc then {()} else ∅
/-- Barriers are waited for before the first exchange, the first exchange before the second. -/
def lv (g : GSem nD τ sig) (_ : Unit) : ℕ := match g.2 with
  | .reg _ => 1
  | .dma q => if q.val < 6 then 0 else if kindOf q = 1 then 2 else if kindOf q = 3 then 3 else 0

/-- No other has, -/
theorem L_of_ne (g : GSem nD τ sig) (h : g.1.2 ≠ .tc) : L g = ∅ := if_neg h
/-- and each of those has. -/
theorem L_tc (c : Dev nD) (sm : SemLoc sig) : L ((c : Thread nD τ), sm) = {()} := if_pos rfl

/-- The level of a semaphore of the four arrays. -/
theorem lv_cell (a : Fin 4) (c j : Dev nD) (u : Unit) : lv (cell a c j) u = if a.val = 1 then 2 else if a.val = 3 then 3 else 0 := by
  show (if (dcell a j).val < 6 then 0 else if kindOf (dcell a j) = 1 then 2 else if kindOf (dcell a j) = 3 then 3 else 0) = _
  rw [if_neg (Nat.not_lt.mpr (dcell_ge a j)), kindOf_dcell]

/-- Signals are owed at level 1, -/
theorem owedS_pos {c : Dev nD} {l : List (Fin 31)} {g : GSem nD τ sig} {u : Unit} (h : 0 < sumT (owedS c) l g u) :
    g.1.2 = .tc ∧ lv g u = 1 := by
  obtain ⟨k, hk⟩ := sumT_pos h
  rw [tallyAt_pos hk]
  exact ⟨rfl, rfl⟩
/-- the first exchange's transfers at level 2, -/
theorem owedA_pos {c : Dev nD} {l : List (Fin 31)} {g : GSem nD τ sig} {u : Unit} (h : 0 < sumT (owedA c) l g u) :
    g.1.2 = .tc ∧ lv g u = 2 := by
  obtain ⟨k, hk⟩ := sumT_pos h
  rw [tallyAt_pos hk]
  exact ⟨rfl, lv_cell 1 _ _ _⟩
/-- the second's at level 3. -/
theorem owedB_pos {c : Dev nD} {l : List (Fin 31)} {g : GSem nD τ sig} {u : Unit} (h : 0 < sumT (owedB c) l g u) :
    g.1.2 = .tc ∧ lv g u = 3 := by
  obtain ⟨k, hk⟩ := sumT_pos h
  rw [tallyAt_pos hk]
  exact ⟨rfl, lv_cell 3 _ _ _⟩

/-- A device may wait on a cell of level at most `n` while all it owes is of a higher level. -/
theorem mayWait (c : Dev nD) (sm : SemLoc sig) (n : ℕ) (O : CT) (hsm : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- What is owed in a sum is owed in one of its parts. -/
theorem add_pos_cases {O P : CT} {g : GSem nD τ sig} {u : Unit} (h : 0 < (O + P) g u) : 0 < O g u ∨ 0 < P g u := by
  rw [Pi.add_apply, Finsupp.add_apply] at h
  omega

/-- On a staging semaphore, owing everything. -/
theorem mayWait_stage (c : Dev nD) (q : DmaSem sig) (hq : q.val < 6) (O : CT) (hO : O = O₀ c ∨ O = 0) :
    (levAts L lv : sProp 𝕄) ⊢ MayWait (c : Thread nD τ) (.dma q) () O := by
  refine mayWait c _ 0 O (Nat.le_of_eq (if_pos hq)) fun g u hg => ?_
  rcases hO with rfl | rfl
  · unfold O₀ at hg
    rcases add_pos_cases hg with h | h
    · rcases add_pos_cases h with h | h
      · exact ⟨(owedB_pos h).1, by rw [(owedB_pos h).2]; decide⟩
      · exact ⟨(owedA_pos h).1, by rw [(owedA_pos h).2]; decide⟩
    · exact ⟨(owedS_pos h).1, by rw [(owedS_pos h).2]; decide⟩
  · exact absurd hg (Nat.lt_irrefl 0)

/-- On its barrier, owing both exchanges. -/
theorem mayWait_bar (c : Dev nD) :
    (levAts L lv : sProp 𝕄) ⊢ MayWait (c : Thread nD τ) (.reg barS) () (sumT (owedB c) steps + sumT (owedA c) steps) :=
  mayWait c _ 1 _ (Nat.le_refl 1) fun g u hg => by
    rcases add_pos_cases hg with h | h
    · exact ⟨(owedB_pos h).1, by rw [(owedB_pos h).2]; decide⟩
    · exact ⟨(owedA_pos h).1, by rw [(owedA_pos h).2]; decide⟩

/-- On a receive semaphore of the first exchange, owing the second. -/
theorem mayWait_recvA (c j : Dev nD) (l : List (Fin 31)) :
    (levAts L lv : sProp 𝕄) ⊢ MayWait (c : Thread nD τ) (.dma (dcell 1 j)) () (sumT (owedB c) l) :=
  mayWait c _ 2 _ (Nat.le_of_eq (lv_cell 1 c j ())) fun g u hg =>
    ⟨(owedB_pos hg).1, by rw [(owedB_pos hg).2]; decide⟩

end Cert.KernelIdeal.Moe
-- ==== Proof.Steps.lean ====
module

public import proofs.«01_k».proof.Proof.Protocol

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the program needs a variant. -/
abbrev 𝒱₀ : Variants := Variants.none

/-! ## Resources over a list of steps -/

/-- `Φ` at each step of a list. -/
def over (Φ : Fin 31 → sProp 𝕄) : List (Fin 31) → sProp 𝕄
  | [] => iprop(emp)
  | k :: l => iprop(Φ k ∗ over Φ l)

/-- One step more. -/
theorem over_cons (Φ : Fin 31 → sProp 𝕄) (k : Fin 31) (l : List (Fin 31)) : over Φ (k :: l) = iprop(Φ k ∗ over Φ l) := rfl

/-- Over a list without repetition it is `Φ` over the list's set. -/
theorem over_eq_bigSepL (Φ : Fin 31 → sProp 𝕄) (l : List (Fin 31)) (h : l.Nodup) :
    over Φ l = bigSep l.toFinset Φ := by
  induction l with
  | nil => rw [List.toFinset_nil, bigSep_empty]; rfl
  | cons k l ih =>
    rw [List.toFinset_cons, bigSep_insert (by rw [List.mem_toFinset]; exact (List.nodup_cons.mp h).1), ← ih (List.nodup_cons.mp h).2]
    rfl

/-- Over all steps it is `Φ` at each. -/
theorem over_steps (Φ : Fin 31 → sProp 𝕄) : over Φ steps = bigSep Finset.univ Φ := by
  rw [over_eq_bigSepL Φ steps (by decide)]
  exact congrArg (fun s => bigSep s Φ) (by decide)

/-- What a device owes, whatever it has waited for. -/
def owing (c : Dev nD) (O : CT) : sProp 𝕄 := iprop(∃ W, owes (c : Thread nD τ) O W)

/-- A loop: a rule for each step gives a rule for the whole. -/
theorem wp_each (c : Dev nD) (R : sProp 𝕄) [BI.Persistent R]
    (f : Fin 31 → Prog (TpuEff nD τ sig (Elt F) Λ₀ .tc) PUnit) (O : List (Fin 31) → CT) (Res Out : Fin 31 → sProp 𝕄) (Q : PUnit → sProp 𝕄)
    (hstep : ∀ k l (rest : PUnit → Prog (TpuEff nD τ sig (Elt F) Λ₀ .tc) PUnit),
      iprop(R ∗ Res k ∗ owing c (O (k :: l)))
        ⊢ iprop(((Out k ∗ owing c (O l)) -∗ wp frame (wpE (defs₀ (F := F)) 𝒱₀ (c : Thread nD τ) none) Set.univ (rest ⟨⟩) Q)
          -∗ wp frame (wpE (defs₀ (F := F)) 𝒱₀ (c : Thread nD τ) none) Set.univ ((f k).bind rest) Q))
    (p : Prog (TpuEff nD τ sig (Elt F) Λ₀ .tc) PUnit) (l : List (Fin 31)) :
    iprop(R ∗ over Res l ∗ owing c (O l))
      ⊢ iprop(((over Out l ∗ owing c (O [])) -∗ wp frame (wpE (defs₀ (F := F)) 𝒱₀ (c : Thread nD τ) none) Set.univ p Q)
        -∗ wp frame (wpE (defs₀ (F := F)) 𝒱₀ (c : Thread nD τ) none) Set.univ (each f p l) Q) := by
  induction l with
  | nil =>
    iintro ⟨#HR, Hres, Ho⟩ Hk
    unfold each
    iapply Hk
    isplitl [Hres]; · iexact Hres
    iexact Ho
  | cons k l ih =>
    rw [over_cons, over_cons]
    iintro ⟨#HR, ⟨Hr, Hres⟩, Ho⟩ Hk
    unfold each
    iapply (hstep k l fun _ => each f p l) $$ [Hr Ho]
    · isplitr; · iexact HR
      isplitl [Hr] <;> iassumption
    iintro ⟨Hout, Ho⟩
    iapply ih $$ [Hres Ho]
    · isplitr; · iexact HR
      isplitl [Hres] <;> iassumption
    iintro ⟨Houts, Ho⟩
    iapply Hk
    isplitl [Hout Houts]
    · isplitl [Hout] <;> iassumption
    iexact Ho

/-! ## What every device knows -/

/-- A device's semaphores: the barrier, and one at each place of each array. -/
abbrev Key : Type := Option (Fin 4 × Dev nD)

/-- The cells of a device: its barrier and its four arrays. -/
abbrev kcell (ck : Dev nD × Key) : GSem nD τ sig := match ck.2 with
  | none => barCell ck.1
  | some (a, j) => cell a ck.1 j

variable (K : Dev nD × Key → ℕ)

/-- Every cell's invariant, that every cell has reached its one round, and the order of waits. -/
def recs : sProp 𝕄 :=
  iprop(bigSep Finset.univ (fun ck : Dev nD × Key => cellInv ER (moeRd m) (K ck) (kcell ck))
    ∗ bigSep Finset.univ (fun ck : Dev nD × Key => reached ER (kcell ck) 0) ∗ levAts L lv)

/-- The records may be used any number of times. -/
instance recs_persistent : BI.Persistent (recs m K) := by unfold recs; infer_instance

/-- They hold every cell's invariant, -/
theorem recs_inv (ck : Dev nD × Key) : recs m K ⊢ cellInv ER (moeRd m) (K ck) (kcell ck) := by
  unfold recs
  exact sep_elim_left.trans (bigSep_elim (Φ := fun ck : Dev nD × Key => cellInv ER (moeRd m) (K ck) (kcell ck)) (Finset.mem_univ ck))
/-- that every cell is in its round, -/
theorem recs_reached (ck : Dev nD × Key) : recs m K ⊢ (reached ER (kcell ck) 0 : sProp 𝕄) := by
  unfold recs
  exact sep_elim_right.trans (sep_elim_left.trans (bigSep_elim (Φ := fun ck : Dev nD × Key => reached ER (kcell ck) 0) (Finset.mem_univ ck)))
/-- and the order of waits. -/
theorem recs_lev : recs m K ⊢ (levAts L lv : sProp 𝕄) := by
  unfold recs
  iintro ⟨-, -, H⟩
  iexact H

/-! ## The steps -/

/-- A device may wait for a share while it owes the second exchange, -/
theorem recs_recvA (c j : Dev nD) (l : List (Fin 31)) :
    recs m K ⊢ (MayWait (c : Thread nD τ) (.dma (dcell 1 j)) () (sumT (owedB c) l) : sProp 𝕄) :=
  BIBase.Entails.trans (@recs_lev F _ m K) (mayWait_recvA c j l)
/-- and at its barrier while it owes both. -/
theorem recs_bar (c : Dev nD) :
    recs m K ⊢ (MayWait (c : Thread nD τ) (.reg barS) () (sumT (owedB c) steps + sumT (owedA c) steps) : sProp 𝕄) :=
  BIBase.Entails.trans (@recs_lev F _ m K) (mayWait_bar c)

section Steps

variable (c : Dev nD)

/-- A signal: the device lends its peer what the peer will fill. -/
theorem wp_stepSignal (Q : PUnit → sProp 𝕄) (P : CT) (k : Fin 31) (l : List (Fin 31)) (rest : PUnit → Prog (TpuEff nD τ sig (Elt F) Λ₀ .tc) PUnit) :
    iprop(recs m K ∗ (barPay c (peer c k) ∗ dutyTok ER (barCell (peer c k)) 0 k.rev) ∗ owing c (P + sumT (owedS c) (k :: l)))
      ⊢ iprop(((emp ∗ owing c (P + sumT (owedS c) l)) -∗ wp frame (wpE (defs₀ (F := F)) 𝒱₀ (c : Thread nD τ) none) Set.univ (rest ⟨⟩) Q)
        -∗ wp frame (wpE (defs₀ (F := F)) 𝒱₀ (c : Thread nD τ) none) Set.univ ((stepSignal c k).bind rest) Q) := by
  unfold stepSignal
  simp only [semSignalWord, Prog.lift, Prog.bind_op, Prog.bind_ret, Prog.pure_eq_ret]
  unfold owing
  iintro ⟨#HR, ⟨Hpay, Htok⟩, ⟨%W, HO⟩⟩ Hk
  iapply (Rounds.wp_signal 𝒱₀ ER (moeRd m) (c : Thread nD τ) none (dst := (peer c k : Thread nD τ)) (κ := K (peer c k, none))
      (d := k.rev) (by rw [duties_bar]; exact Finset.mem_univ _) ((amount_bar m (peer c k) k.rev).trans (by decide)) () (P + sumT (owedS c) l)
      (O₀ := P + sumT (owedS c) (k :: l)) (by rw [sumT_cons, ← add_assoc]; rfl)) $$ [Hpay Htok HO]
  · isplitr; · iapply (recs_inv m K (peer c k, none)); iexact HR
    isplitl [HO]; · iexact HO
    isplitl [Htok]; · iexact Htok
    isplitl [Hpay]
    · rw [payload_bar, peer_peer_rev]; iexact Hpay
    iapply (recs_reached m K (peer c k, none)); iexact HR
  iintro HO
  iapply Hk
  isplitr; · iempintro
  iexists W
  iexact HO

/-- The rows that the payload at a step's send semaphore names are the peer's. -/
theorem sentRows (k : Fin 31) : (⟨(c.val + (stepPlace k).val + 1) % 32, Nat.mod_lt _ (by decide)⟩ : Dev nD) = peer c k :=
  Fin.ext (peer_val c k).symm

/-- What the wait for a sent share gives back: the peer's rows of the share. -/
theorem dmaPay_zero (k : Fin 31) :
    dmaPay m c 0 (stepPlace k) = (accLoc c ↦[rows (peer c k)]{fullShare} accB m c : sProp 𝕄) := by
  rw [← sentRows]; rfl

/-- A transfer of the first exchange. -/
theorem wp_sendA (Q : PUnit → sProp 𝕄) (k : Fin 31) (n : Dev nD) (hn : n = peer c k) (sS sR : DmaSem sig) (hS : sS = dcell 0 (stepPlace k)) (hR : sR = dcell 1 c)
    {hsrc : (accPeer accM c k).view.WordExact} {hdst : (rsOwn rsM c).view.WordExact}
    {hsc : (rsOwn rsM c : Memref sig (Dev.tc n : Thread nD τ).2.kind .vmem S16x512 .f32).view.ref.isScScratch = false}
    {hsem : DmaTarget.Typed .vmem (.dma sR) (.remote (Dev.tc n : Thread nD τ) (rsOwn rsM c) (.dma sS) hsc)}
    (P : CT) (l : List (Fin 31)) (rest : PUnit → Prog (TpuEff nD τ sig (Elt F) Λ₀ .tc) PUnit) :
    iprop(recs m K ∗ ((accLoc c ↦[rows (peer c k)]{fullShare} accB m c) ∗ (∃ f : Buf (Elt F) (rsLoc (peer c k)), rsLoc (peer c k) ↦[slab c]{fullShare} f)
          ∗ dutyTok ER (cell 0 c (stepPlace k)) 0 0 ∗ dutyTok ER (cell 1 (peer c k) c) 0 0) ∗ owing c (P + sumT (owedA c) (k :: l)))
      ⊢ iprop(((cred (tallyAt (cell 0 c (stepPlace k)) () N) ∗ owing c (P + sumT (owedA c) l))
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma (accPeer accM c k) (.remote (Dev.tc n : Thread nD τ) (rsOwn rsM c) (.dma sS) hsc) (.dma sR) hsrc hdst hsem) rest) Q) := by
  subst hn hS hR
  unfold owing
  iintro ⟨#HR, ⟨Hsrc, ⟨%fd, Hdst⟩, Ht0, Ht1⟩, ⟨%W, HO⟩⟩ Hk
  iapply (Rounds.wp_send_pointsTo 𝒱₀ ER (moeRd m) (c : Thread nD τ) none (κ₁ := K (c, some (0, stepPlace k))) (κ₂ := K (peer c k, some (1, c)))
    (r₁ := 0) (r₂ := 0) (d₁ := 0) (d₂ := 0) (fs := accB m c) (fd := fd) (q := fullShare)
    (by rw [duties_cell m c 0 _ (live_step0 c k)]; exact Finset.mem_singleton_self _)
    (by rw [duties_cell m (peer c k) 1 c (live_at1 c k)]; exact Finset.mem_singleton_self _)
    () () N (by exact credit_rsOwn c) (amount_cell m c 0 _ 0) (amount_cell m (peer c k) 1 c 0) (O₀ := P + sumT (owedA c) (k :: l)) (P + sumT (owedA c) l) (by rw [sumT_cons, ← add_assoc]) (W := W)
    (by rw [payload_cell, accPeer_set]; exact Entails.of_eq (dmaPay_zero m c k).symm)
    (by rw [payload_cell, rsOwn_set]; exact Entails.of_eq (pointsTo_congr fun i hi => sentA (accB m) c k fd i hi))) $$ [Hsrc Hdst Ht0 Ht1 HO]
  · isplitr; · iapply (recs_inv m K (c, some (0, stepPlace k))); iexact HR
    isplitr; · iapply (recs_inv m K (peer c k, some (1, c))); iexact HR
    isplitl [Hsrc]; · rw [accPeer_set]; iexact Hsrc
    isplitl [Hdst]; · rw [rsOwn_set]; iexact Hdst
    isplitl [HO]; · iexact HO
    isplitl [Ht0]; · iexact Ht0
    isplitr; · iapply (recs_reached m K (c, some (0, stepPlace k))); iexact HR
    isplitl [Ht1]; · iexact Ht1
    iapply (recs_reached m K (peer c k, some (1, c))); iexact HR
  iintro ⟨Hc, HO⟩
  iapply Hk
  isplitl [Hc]; · iexact Hc
  iexists W
  iexact HO

/-- A transfer of the second exchange. -/
theorem wp_sendB (Q : PUnit → sProp 𝕄) (k : Fin 31) (n : Dev nD) (hn : n = peer c k) (sS sR : DmaSem sig) (hS : sS = dcell 2 (stepPlace k)) (hR : sR = dcell 3 c)
    {hsrc : (outOwn outM c).view.WordExact} {hdst : (outOwn outM c).view.WordExact}
    {hsc : (outOwn outM c : Memref sig (Dev.tc n : Thread nD τ).2.kind .vmem S16x512 .f32).view.ref.isScScratch = false}
    {hsem : DmaTarget.Typed .vmem (.dma sR) (.remote (Dev.tc n : Thread nD τ) (outOwn outM c) (.dma sS) hsc)}
    (P : CT) (l : List (Fin 31)) (rest : PUnit → Prog (TpuEff nD τ sig (Elt F) Λ₀ .tc) PUnit) :
    iprop(recs m K ∗ ((outLoc c ↦[rows c]{Transfers.shareTokN fullShare k.val} outB m) ∗ (∃ f : Buf (Elt F) (outLoc (peer c k)), outLoc (peer c k) ↦[rows c]{fullShare} f)
          ∗ dutyTok ER (cell 2 c (stepPlace k)) 0 0 ∗ dutyTok ER (cell 3 (peer c k) c) 0 0) ∗ owing c (P + sumT (owedB c) (k :: l)))
      ⊢ iprop(((cred (tallyAt (cell 2 c (stepPlace k)) () N) ∗ owing c (P + sumT (owedB c) l))
          -∗ wp frame (wpE (defs₀ (F := F)) 𝒱₀ (c : Thread nD τ) none) Set.univ (rest ⟨⟩) Q)
        -∗ wp frame (wpE (defs₀ (F := F)) 𝒱₀ (c : Thread nD τ) none) Set.univ
          (.op (.enqueueDma (outOwn outM c) (.remote (Dev.tc n : Thread nD τ) (outOwn outM c) (.dma sS) hsc) (.dma sR) hsrc hdst hsem) rest) Q) := by
  subst hn hS hR
  unfold owing
  iintro ⟨#HR, ⟨Hsrc, ⟨%fd, Hdst⟩, Ht0, Ht1⟩, ⟨%W, HO⟩⟩ Hk
  iapply (Rounds.wp_send_pointsTo 𝒱₀ ER (moeRd m) (c : Thread nD τ) none (κ₁ := K (c, some (2, stepPlace k))) (κ₂ := K (peer c k, some (3, c)))
    (r₁ := 0) (r₂ := 0) (d₁ := 0) (d₂ := 0) (fs := outB m) (fd := fd) (q := Transfers.shareTokN fullShare k.val)
    (by rw [duties_cell m c 2 _ (live_step2 c k)]; exact Finset.mem_singleton_self _)
    (by rw [duties_cell m (peer c k) 3 c (live_at3 c k)]; exact Finset.mem_singleton_self _)
    () () N (by exact credit_outOwn c) (amount_cell m c 2 _ 0) (amount_cell m (peer c k) 3 c 0) (O₀ := P + sumT (owedB c) (k :: l)) (P + sumT (owedB c) l) (by rw [sumT_cons, ← add_assoc]) (W := W)
    (by rw [payload_cell, outOwn_set]; exact Entails.refl _)
    (by rw [payload_cell, outOwn_set]; exact Entails.of_eq (pointsTo_congr fun i hi => sentB (outB m) fd c i hi))) $$ [Hsrc Hdst Ht0 Ht1 HO]
  · isplitr; · iapply (recs_inv m K (c, some (2, stepPlace k))); iexact HR
    isplitr; · iapply (recs_inv m K (peer c k, some (3, c))); iexact HR
    isplitl [Hsrc]; · rw [outOwn_set]; iexact Hsrc
    isplitl [Hdst]; · rw [outOwn_set]; iexact Hdst
    isplitl [HO]; · iexact HO
    isplitl [Ht0]; · iexact Ht0
    isplitr; · iapply (recs_reached m K (c, some (2, stepPlace k))); iexact HR
    isplitl [Ht1]; · iexact Ht1
    iapply (recs_reached m K (peer c k, some (3, c))); iexact HR
  iintro ⟨Hc, HO⟩
  iapply Hk
  isplitl [Hc]; · iexact Hc
  iexists W
  iexact HO

/-- A wait for a transfer: what the transfer brings, and the semaphore back at zero. -/
theorem wp_take (Q : PUnit → sProp 𝕄) {e : TpuEff nD τ sig (Elt F) Λ₀ .tc PUnit} (a : Fin 4) (j : Dev nD) (hl : live c a.val j) (q : DmaSem sig) (hq : q = dcell a j)
    (hw : ∀ G : PUnit → sProp 𝕄, wpE (defs₀ (F := F)) 𝒱₀ (c : Thread nD τ) none Set.univ e G = waitSpec (c : Thread nD τ) Set.univ (.dma q) N G)
    (O : CT) (rest : PUnit → Prog (TpuEff nD τ sig (Elt F) Λ₀ .tc) PUnit) :
    iprop(recs m K ∗ (cred (tallyAt (cell a c j) () N) ∗ atPos ER (cell a c j) 0 ∅ 0) ∗ owing c O ∗ MayWait (c : Thread nD τ) (.dma (dcell a j)) () O)
      ⊢ iprop((((semVal (cell a c j) 0 ∗ dmaPay m c a.val j) ∗ owing c O) -∗ wp frame (wpE (defs₀ (F := F)) 𝒱₀ (c : Thread nD τ) none) Set.univ (rest ⟨⟩) Q)
        -∗ wp frame (wpE (defs₀ (F := F)) 𝒱₀ (c : Thread nD τ) none) Set.univ (.op e rest) Q) := by
  subst hq
  unfold owing
  iintro ⟨#HR, ⟨Hc, Hat⟩, ⟨%W, HO⟩, Hmw⟩ Hk
  iapply (Rounds.wp_wait_rest_token 𝒱₀ ER (moeRd m) (c : Thread nD τ) none (κ := K (c, some (a, j)))
      hw (Set.mem_univ _) () (O := O) (W := W) (R := 0) (m := 0) (T := ∅)
      (by rw [Nat.zero_add, expect_cell m c a j hl])) $$ [Hc HO Hat Hmw]
  · isplitr; · iapply (recs_inv m K (c, some (a, j))); iexact HR
    isplitl [Hc]; · iexact Hc
    isplitl [HO]; · iexact HO
    isplitl [Hmw]; · iexact Hmw
    iexact Hat
  iintro ⟨HO, Hat, -, Hpay⟩
  ihave Hp := (Entails.of_eq (rest_cell m c a j hl)) $$ Hpay
  imod (Rounds.cell_close ER (moeRd m) (Set.mem_univ (K (c, some (a, j)))) (fun h => h) (R := 0 + 1) (duties_later m (cell a c j))) $$ [Hat] with Hz
  · isplitr; · iapply (recs_inv m K (c, some (a, j))); iexact HR
    iexact Hat
  iapply Hk
  isplitl [Hz Hp]
  · isplitl [Hz] <;> iassumption
  iexists _
  iexact HO

/-- A semaphore no transfer uses is at zero. -/
theorem idle_close (a : Fin 4) (j : Dev nD) (hl : ¬ live c a.val j) :
    iprop(recs m K ∗ atPos ER (cell a c j) 0 ∅ 0) ⊢ iprop(|={Set.univ}=> semVal (cell a c j) 0 : sProp 𝕄) := by
  iintro ⟨#HR, Hat⟩
  iapply (Rounds.cell_close ER (moeRd m) (Set.mem_univ (K (c, some (a, j)))) (fun h => h) (R := 0) (fun r _ => duties_idle m c a j hl r)) $$ [Hat]
  isplitr; · iapply (recs_inv m K (c, some (a, j))); iexact HR
  iexact Hat

end Steps

end Cert.KernelIdeal.Moe
-- ==== Proof.Loops.lean ====
module

public import proofs.«01_k».proof.Proof.Steps

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-- One operation, and then the rest. -/
theorem lift_bind {α : Type} (e : TpuEff nD τ sig (Elt F) Λ₀ .tc α) (rest : α → Prog (TpuEff nD τ sig (Elt F) Λ₀ .tc) PUnit) :
    (Prog.lift e).bind rest = .op e rest := rfl

/-- The signals. -/
theorem loop_signal (Q : PUnit → sProp 𝕄) (p : Prog (TpuEff nD τ sig (Elt F) Λ₀ .tc) PUnit) :
    iprop(recs m K ∗ bigSep Finset.univ (fun k : Fin 31 => iprop(barPay c (peer c k) ∗ dutyTok ER (barCell (peer c k)) 0 k.rev)) ∗ owing c (O₀ c))
      ⊢ iprop((owing c (sumT (owedB c) steps + sumT (owedA c) steps) -∗ wp frame (wpE (defs₀ (F := F)) 𝒱₀ (c : Thread nD τ) none) Set.univ p Q)
        -∗ wp frame (wpE (defs₀ (F := F)) 𝒱₀ (c : Thread nD τ) none) Set.univ (each (stepSignal c) p steps) Q) := by
  have h := wp_each c (recs m K) (stepSignal c) (fun l => sumT (owedB c) steps + sumT (owedA c) steps + sumT (owedS c) l)
    (fun k => iprop(barPay c (peer c k) ∗ dutyTok ER (barCell (peer c k)) 0 k.rev)) (fun _ => iprop(emp)) Q
    (fun k l rest => wp_stepSignal m K c Q _ k l rest) p steps
  rw [over_steps] at h
  simp only [sumT_nil, add_zero] at h
  iintro H Hk
  iapply h $$ [H]
  · iexact H
  iintro ⟨-, Ho⟩
  iapply Hk
  iexact Ho

/-- The transfers of the first exchange. -/
theorem loop_sendA (Q : PUnit → sProp 𝕄) (p : Prog (TpuEff nD τ sig (Elt F) Λ₀ .tc) PUnit) :
    iprop(recs m K ∗ bigSep Finset.univ (fun k : Fin 31 => iprop((accLoc c ↦[rows (peer c k)]{fullShare} accB m c)
          ∗ (∃ f : Buf (Elt F) (rsLoc (peer c k)), rsLoc (peer c k) ↦[slab c]{fullShare} f)
          ∗ dutyTok ER (cell 0 c (stepPlace k)) 0 0 ∗ dutyTok ER (cell 1 (peer c k) c) 0 0))
        ∗ owing c (sumT (owedB c) steps + sumT (owedA c) steps))
      ⊢ iprop(((bigSep Finset.univ (fun k : Fin 31 => cred (tallyAt (cell 0 c (stepPlace k)) () N)) ∗ owing c (sumT (owedB c) steps))
          -∗ wp frame (wpE (defs₀ (F := F)) 𝒱₀ (c : Thread nD τ) none) Set.univ p Q)
        -∗ wp frame (wpE (defs₀ (F := F)) 𝒱₀ (c : Thread nD τ) none) Set.univ (each (stepSendA accM rsM cc0_scratch2 cc0_scratch3 c) p steps) Q) := by
  have h := wp_each c (recs m K) (stepSendA accM rsM cc0_scratch2 cc0_scratch3 c) (fun l => sumT (owedB c) steps + sumT (owedA c) l)
    (fun k => iprop((accLoc c ↦[rows (peer c k)]{fullShare} accB m c)
          ∗ (∃ f : Buf (Elt F) (rsLoc (peer c k)), rsLoc (peer c k) ↦[slab c]{fullShare} f)
          ∗ dutyTok ER (cell 0 c (stepPlace k)) 0 0 ∗ dutyTok ER (cell 1 (peer c k) c) 0 0))
    (fun k => cred (tallyAt (cell 0 c (stepPlace k)) () N)) Q
    (fun k l rest => by
      unfold stepSendA
      rw [lift_bind]
      exact wp_sendA m K c Q k _ rfl _ _ (semAt_eq 0 k) (semOwn_eq 1 c) _ l rest) p steps
  rw [over_steps, over_steps] at h
  simp only [sumT_nil, add_zero] at h
  exact h

/-- The transfers of the second exchange. -/
theorem loop_sendB (Q : PUnit → sProp 𝕄) (p : Prog (TpuEff nD τ sig (Elt F) Λ₀ .tc) PUnit) :
    iprop(recs m K ∗ bigSep Finset.univ (fun k : Fin 31 => iprop((outLoc c ↦[rows c]{Transfers.shareTokN fullShare k.val} outB m)
          ∗ (∃ f : Buf (Elt F) (outLoc (peer c k)), outLoc (peer c k) ↦[rows c]{fullShare} f)
          ∗ dutyTok ER (cell 2 c (stepPlace k)) 0 0 ∗ dutyTok ER (cell 3 (peer c k) c) 0 0))
        ∗ owing c (sumT (owedB c) steps))
      ⊢ iprop(((bigSep Finset.univ (fun k : Fin 31 => cred (tallyAt (cell 2 c (stepPlace k)) () N)) ∗ owing c 0)
          -∗ wp frame (wpE (defs₀ (F := F)) 𝒱₀ (c : Thread nD τ) none) Set.univ p Q)
        -∗ wp frame (wpE (defs₀ (F := F)) 𝒱₀ (c : Thread nD τ) none) Set.univ (each (stepSendB outM cc0_scratch4 cc0_scratch5 c) p steps) Q) := by
  have h := wp_each c (recs m K) (stepSendB outM cc0_scratch4 cc0_scratch5 c) (fun l => 0 + sumT (owedB c) l)
    (fun k => iprop((outLoc c ↦[rows c]{Transfers.shareTokN fullShare k.val} outB m)
          ∗ (∃ f : Buf (Elt F) (outLoc (peer c k)), outLoc (peer c k) ↦[rows c]{fullShare} f)
          ∗ dutyTok ER (cell 2 c (stepPlace k)) 0 0 ∗ dutyTok ER (cell 3 (peer c k) c) 0 0))
    (fun k => cred (tallyAt (cell 2 c (stepPlace k)) () N)) Q
    (fun k l rest => by
      unfold stepSendB
      rw [lift_bind]
      exact wp_sendB m K c Q k _ rfl _ _ (semAt_eq 2 k) (semOwn_eq 3 c) _ l rest) p steps
  rw [over_steps, over_steps] at h
  simp only [sumT_nil, add_zero, zero_add] at h
  exact h

/-- A loop of waits, one on each of the semaphores `j k` of array `a`. -/
theorem loop_take (Q : PUnit → sProp 𝕄) (p : Prog (TpuEff nD τ sig (Elt F) Λ₀ .tc) PUnit) (a : Fin 4) (j : Fin 31 → Dev nD) (hl : ∀ k, live c a.val (j k))
    (e : Fin 31 → TpuEff nD τ sig (Elt F) Λ₀ .tc PUnit) (q : Fin 31 → DmaSem sig) (hq : ∀ k, q k = dcell a (j k))
    (hw : ∀ k (G : PUnit → sProp 𝕄), wpE (defs₀ (F := F)) 𝒱₀ (c : Thread nD τ) none Set.univ (e k) G = waitSpec (c : Thread nD τ) Set.univ (.dma (q k)) N G)
    (O : CT) (hO : ∀ k, recs m K ⊢ (MayWait (c : Thread nD τ) (.dma (dcell a (j k))) () O : sProp 𝕄)) :
    iprop(recs m K ∗ bigSep Finset.univ (fun k : Fin 31 => iprop(cred (tallyAt (cell a c (j k)) () N) ∗ atPos ER (cell a c (j k)) 0 ∅ 0)) ∗ owing c O)
      ⊢ iprop(((bigSep Finset.univ (fun k : Fin 31 => iprop(semVal (cell a c (j k)) 0 ∗ dmaPay m c a.val (j k))) ∗ owing c O)
          -∗ wp frame (wpE (defs₀ (F := F)) 𝒱₀ (c : Thread nD τ) none) Set.univ p Q)
        -∗ wp frame (wpE (defs₀ (F := F)) 𝒱₀ (c : Thread nD τ) none) Set.univ (each (fun k => Prog.lift (e k)) p steps) Q) := by
  have h := wp_each c (recs m K) (fun k => Prog.lift (e k)) (fun _ => O)
    (fun k => iprop(cred (tallyAt (cell a c (j k)) () N) ∗ atPos ER (cell a c (j k)) 0 ∅ 0))
    (fun k => iprop(semVal (cell a c (j k)) 0 ∗ dmaPay m c a.val (j k))) Q
    (fun k l rest => by
      have ht := wp_take m K c Q a (j k) (hl k) (q k) (hq k) (hw k) O rest
      have hk := hO k
      show _ ⊢ iprop(_ -∗ wp frame (wpE (defs₀ (F := F)) 𝒱₀ (c : Thread nD τ) none) Set.univ (.op (e k) rest) Q)
      iintro ⟨#HR, Hx, Ho⟩
      iapply ht
      isplitr; · iexact HR
      isplitl [Hx]; · iexact Hx
      isplitl [Ho]; · iexact Ho
      iapply hk
      iexact HR) p steps
  rw [over_steps, over_steps] at h
  exact h

/-- A device that owes nothing may wait anywhere. -/
theorem recs_zero (sm : SemLoc sig) : recs m K ⊢ (MayWait (c : Thread nD τ) sm () 0 : sProp 𝕄) := by
  rw [MayWait_zero]
  iintro -
  iempintro

/-- The waits for the other devices' shares. -/
theorem loop_recvA (Q : PUnit → sProp 𝕄) (p : Prog (TpuEff nD τ sig (Elt F) Λ₀ .tc) PUnit) :
    iprop(recs m K ∗ bigSep Finset.univ (fun k : Fin 31 => iprop(cred (tallyAt (cell 1 c (peer c k)) () N) ∗ atPos ER (cell 1 c (peer c k)) 0 ∅ 0))
        ∗ owing c (sumT (owedB c) steps))
      ⊢ iprop(((bigSep Finset.univ (fun k : Fin 31 => iprop(semVal (cell 1 c (peer c k)) 0 ∗ dmaPay m c 1 (peer c k))) ∗ owing c (sumT (owedB c) steps))
          -∗ wp frame (wpE (defs₀ (F := F)) 𝒱₀ (c : Thread nD τ) none) Set.univ p Q)
        -∗ wp frame (wpE (defs₀ (F := F)) 𝒱₀ (c : Thread nD τ) none) Set.univ (each (stepRecvA rsM cc0_scratch3 c) p steps) Q) :=
  loop_take m K c Q p 1 (peer c) (live_peer1 c) _ _ (semPeer_eq 1 c)
    (fun k G => (wpE_waitDma2_eq 𝒱₀ (c : Thread nD τ) none Set.univ G).trans (by rw [credit_rsPeer])) _ (fun k => recs_recvA m K c _ _)

/-- The waits for the device's own transfers of the first exchange. -/
theorem loop_sentA (Q : PUnit → sProp 𝕄) (p : Prog (TpuEff nD τ sig (Elt F) Λ₀ .tc) PUnit) :
    iprop(recs m K ∗ bigSep Finset.univ (fun k : Fin 31 => iprop(cred (tallyAt (cell 0 c (stepPlace k)) () N) ∗ atPos ER (cell 0 c (stepPlace k)) 0 ∅ 0)) ∗ owing c 0)
      ⊢ iprop(((bigSep Finset.univ (fun k : Fin 31 => iprop(semVal (cell 0 c (stepPlace k)) 0 ∗ dmaPay m c 0 (stepPlace k))) ∗ owing c 0)
          -∗ wp frame (wpE (defs₀ (F := F)) 𝒱₀ (c : Thread nD τ) none) Set.univ p Q)
        -∗ wp frame (wpE (defs₀ (F := F)) 𝒱₀ (c : Thread nD τ) none) Set.univ (each (stepSentA accM rsM cc0_scratch2 c) p steps) Q) :=
  loop_take m K c Q p 0 stepPlace (live_step0 c) _ _ (semAt_eq 0)
    (fun k G => (wpE_waitDma2_eq 𝒱₀ (c : Thread nD τ) none Set.univ G).trans (by rw [credit_accPeer])) _ (fun k => recs_zero m K c _)

/-- The waits for the other devices' rows of the result. -/
theorem loop_recvB (Q : PUnit → sProp 𝕄) (p : Prog (TpuEff nD τ sig (Elt F) Λ₀ .tc) PUnit) :
    iprop(recs m K ∗ bigSep Finset.univ (fun k : Fin 31 => iprop(cred (tallyAt (cell 3 c (peer c k)) () N) ∗ atPos ER (cell 3 c (peer c k)) 0 ∅ 0)) ∗ owing c 0)
      ⊢ iprop(((bigSep Finset.univ (fun k : Fin 31 => iprop(semVal (cell 3 c (peer c k)) 0 ∗ dmaPay m c 3 (peer c k))) ∗ owing c 0)
          -∗ wp frame (wpE (defs₀ (F := F)) 𝒱₀ (c : Thread nD τ) none) Set.univ p Q)
        -∗ wp frame (wpE (defs₀ (F := F)) 𝒱₀ (c : Thread nD τ) none) Set.univ (each (stepRecvB outM cc0_scratch5 c) p steps) Q) :=
  loop_take m K c Q p 3 (peer c) (live_peer3 c) _ _ (semPeer_eq 3 c)
    (fun k G => (wpE_waitDma2_eq 𝒱₀ (c : Thread nD τ) none Set.univ G).trans (by rw [credit_outPeer])) _ (fun k => recs_zero m K c _)

/-- The waits for the device's own transfers of the second exchange. -/
theorem loop_sentB (Q : PUnit → sProp 𝕄) (p : Prog (TpuEff nD τ sig (Elt F) Λ₀ .tc) PUnit) :
    iprop(recs m K ∗ bigSep Finset.univ (fun k : Fin 31 => iprop(cred (tallyAt (cell 2 c (stepPlace k)) () N) ∗ atPos ER (cell 2 c (stepPlace k)) 0 ∅ 0)) ∗ owing c 0)
      ⊢ iprop(((bigSep Finset.univ (fun k : Fin 31 => iprop(semVal (cell 2 c (stepPlace k)) 0 ∗ dmaPay m c 2 (stepPlace k))) ∗ owing c 0)
          -∗ wp frame (wpE (defs₀ (F := F)) 𝒱₀ (c : Thread nD τ) none) Set.univ p Q)
        -∗ wp frame (wpE (defs₀ (F := F)) 𝒱₀ (c : Thread nD τ) none) Set.univ (each (stepSentB outM cc0_scratch4 c) p steps) Q) :=
  loop_take m K c Q p 2 stepPlace (live_step2 c) _ _ (semAt_eq 2)
    (fun k G => (wpE_waitDma2_eq 𝒱₀ (c : Thread nD τ) none Set.univ G).trans (by rw [credit_outOwn])) _ (fun k => recs_zero m K c _)

end Cert.KernelIdeal.Moe
-- ==== Proof.Split.lean ====
module

public import proofs.«01_k».proof.Proof.Loops

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The one place of an array of 32 that no step uses. -/
def lastPlace : Dev nD := ⟨31, by decide⟩

/-- Different steps have different places. -/
theorem stepPlace_injective : Function.Injective stepPlace := fun k l h => Fin.ext (show k.val = l.val from congrArg (fun d : Dev nD => d.val) h)

/-- The devices are this one and its peers. -/
theorem univ_peers (c : Dev nD) : (Finset.univ : Finset (Dev nD)) = insert c (Finset.univ.map ⟨peer c, peer_injective c⟩) := by
  ext d
  simp only [Finset.mem_univ, Finset.mem_insert, Finset.mem_map, Function.Embedding.coeFn_mk, true_and, true_iff]
  by_cases h : d = c
  · exact .inl h
  · exact .inr (exists_peer c d h)

/-- The places are the last one and the steps'. -/
theorem univ_places : (Finset.univ : Finset (Dev nD)) = insert lastPlace (Finset.univ.map ⟨stepPlace, stepPlace_injective⟩) := by
  decide

/-- Something for each device: for device `c`, and for each of the devices after it. -/
theorem bigSep_dev (c : Dev nD) (Φ : Dev nD → sProp 𝕄) :
    bigSep Finset.univ Φ = iprop(Φ c ∗ bigSep Finset.univ fun k : Fin 31 => Φ (peer c k)) := by
  rw [univ_peers c, bigSep_insert (fun h => by
    obtain ⟨k, -, hk⟩ := Finset.mem_map.mp h
    exact peer_ne c k hk), bigSep_map]
  rfl

/-- Something for each place: for the last one, and for each step's. -/
theorem bigSep_place (Φ : Dev nD → sProp 𝕄) :
    bigSep Finset.univ Φ = iprop(Φ lastPlace ∗ bigSep Finset.univ fun k : Fin 31 => Φ (stepPlace k)) := by
  rw [univ_places, bigSep_insert (by decide), bigSep_map]
  rfl

/-- Something for each semaphore of the four arrays of device `c`. -/
theorem bigSep_cells (c : Dev nD) (Φ : Fin 4 → Dev nD → sProp 𝕄) :
    bigSep Finset.univ (fun p : Fin 4 × Dev nD => Φ p.1 p.2)
      = iprop((Φ 0 lastPlace ∗ bigSep Finset.univ fun k : Fin 31 => Φ 0 (stepPlace k))
        ∗ (Φ 1 c ∗ bigSep Finset.univ fun k : Fin 31 => Φ 1 (peer c k))
        ∗ (Φ 2 lastPlace ∗ bigSep Finset.univ fun k : Fin 31 => Φ 2 (stepPlace k))
        ∗ (Φ 3 c ∗ bigSep Finset.univ fun k : Fin 31 => Φ 3 (peer c k))) := by
  rw [bigSep_univ_prod, bigSep_univ_eq_bigSepL [0, 1, 2, 3] (by decide) (by decide), bigSepL_cons_cons, bigSepL_cons_cons, bigSepL_cons_cons,
    bigSepL_singleton, bigSep_place (Φ 0), bigSep_dev c (Φ 1), bigSep_place (Φ 2), bigSep_dev c (Φ 3)]
  rfl

/-- The devices' rows are all rows. -/
theorem rows_union : Finset.univ.biUnion rows = Finset.univ := by
  ext i
  simp only [Finset.mem_biUnion, Finset.mem_univ, true_and, iff_true]
  exact rows_cover i

/-- The devices' slabs are all slabs. -/
theorem slab_union : Finset.univ.biUnion slab = Finset.univ := by
  ext i
  simp only [Finset.mem_biUnion, Finset.mem_univ, true_and, iff_true]
  exact slab_cover i

/-- A buffer of 512 rows held whole is held as each device's rows. -/
theorem split_acc (c : Dev nD) (f : Buf (Elt F) (accLoc c)) :
    (accLoc c ↦{fullShare} f : sProp 𝕄)
      = iprop((accLoc c ↦[rows c]{fullShare} f) ∗ bigSep Finset.univ fun k : Fin 31 => accLoc c ↦[rows (peer c k)]{fullShare} f) := by
  rw [← bigSep_dev c fun d => (accLoc c ↦[rows d]{fullShare} f : sProp 𝕄), ← pointsTo_biUnion (ℓ := accLoc c) Finset.univ rows (fun b _ b' _ h => rows_disjoint b b' h),
    rows_union]

/-- The result held whole is held as each device's rows. -/
theorem split_out (c : Dev nD) (f : Buf (Elt F) (outLoc c)) :
    (outLoc c ↦{fullShare} f : sProp 𝕄)
      = iprop((outLoc c ↦[rows c]{fullShare} f) ∗ bigSep Finset.univ fun k : Fin 31 => outLoc c ↦[rows (peer c k)]{fullShare} f) := by
  rw [← bigSep_dev c fun d => (outLoc c ↦[rows d]{fullShare} f : sProp 𝕄), ← pointsTo_biUnion (ℓ := outLoc c) Finset.univ rows (fun b _ b' _ h => rows_disjoint b b' h),
    rows_union]

/-- The slabs held whole are held one by one. -/
theorem split_rs (c : Dev nD) (f : Buf (Elt F) (rsLoc c)) :
    (rsLoc c ↦{fullShare} f : sProp 𝕄)
      = iprop((rsLoc c ↦[slab c]{fullShare} f) ∗ bigSep Finset.univ fun k : Fin 31 => rsLoc c ↦[slab (peer c k)]{fullShare} f) := by
  rw [← bigSep_dev c fun d => (rsLoc c ↦[slab d]{fullShare} f : sProp 𝕄), ← pointsTo_biUnion (ℓ := rsLoc c) Finset.univ slab (fun b _ b' _ h => slab_disjoint b b' h),
    slab_union]

/-- Parts of buffers held with known contents are held with some contents. -/
theorem keep_some (ℓ : Fin 31 → Loc nD τ sig) (I : (k : Fin 31) → Finset (Idx (ℓ k))) (f : (k : Fin 31) → Buf (Elt F) (ℓ k)) :
    (bigSep Finset.univ fun k : Fin 31 => (ℓ k ↦[I k]{fullShare} f k : sProp 𝕄))
      ⊢ (bigSep Finset.univ fun k : Fin 31 => iprop(∃ g : Buf (Elt F) (ℓ k), ℓ k ↦[I k]{fullShare} g) : sProp 𝕄) :=
  bigSep_mono fun k _ => exists_intro (Φ := fun g : Buf (Elt F) (ℓ k) => (ℓ k ↦[I k]{fullShare} g : sProp 𝕄)) (f k)

/-- What a device lends the others of its slabs and of its result, keeping its own part of each. -/
theorem lend (c : Dev nD) (f : Buf (Elt F) (rsLoc c)) (g : Buf (Elt F) (outLoc c)) :
    iprop((rsLoc c ↦{fullShare} f) ∗ (outLoc c ↦{fullShare} g))
      ⊢ (iprop((rsLoc c ↦[slab c]{fullShare} f) ∗ (outLoc c ↦[rows c]{fullShare} g)
          ∗ bigSep Finset.univ fun k : Fin 31 => barPay c (peer c k)) : sProp 𝕄) := by
  rw [split_rs, split_out]
  iintro ⟨⟨Hr, Hrs⟩, Ho, Hos⟩
  isplitl [Hr]; · iexact Hr
  isplitl [Ho]; · iexact Ho
  unfold barPay
  rw [bigSep_sep']
  isplitl [Hrs]
  · iapply (keep_some (fun k : Fin 31 => rsLoc c) (fun k => slab (peer c k)) fun _ => f) $$ Hrs
  · iapply (keep_some (fun k : Fin 31 => outLoc c) (fun k => rows (peer c k)) fun _ => g) $$ Hos

/-- What the others lend a device. -/
theorem lent (c : Dev nD) : (bigSep Finset.univ fun k : Fin 31 => barPay (peer c k) c : sProp 𝕄)
    = iprop((bigSep Finset.univ fun k : Fin 31 => iprop(∃ f : Buf (Elt F) (rsLoc (peer c k)), rsLoc (peer c k) ↦[slab c]{fullShare} f))
      ∗ bigSep Finset.univ fun k : Fin 31 => iprop(∃ f : Buf (Elt F) (outLoc (peer c k)), outLoc (peer c k) ↦[rows c]{fullShare} f)) := by
  unfold barPay
  exact bigSep_sep' _ _ _

end Cert.KernelIdeal.Moe
-- ==== Proof.Sound.lean ====
module

public import proofs.«01_k».proof.Proof.Split
public import proofs.«01_k».proof.Proof.Gen.KernelIdeal.Points

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

local notation "𝕄" => MT nD τ sig Unit (Elt F) ℕ UU ℕ

variable (m : (ℓ : Loc nD τ sig) → Buf (Elt F) ℓ)

/-! ## What the body starts from and ends with -/

/-- What device `c` pays with, and its place at each of its semaphores. -/
def ghost (K : Dev nD × Key → ℕ) (c : Dev nD) : sProp 𝕄 :=
  iprop(recs m K ∗ atPos ER (barCell c) 0 ∅ 0
    ∗ bigSep Finset.univ (fun p : Fin 4 × Dev nD => atPos ER (cell p.1 c p.2) 0 ∅ 0)
    ∗ bigSep Finset.univ (fun k : Fin 31 => dutyTok ER (barCell (peer c k)) 0 k.rev)
    ∗ bigSep Finset.univ (fun k : Fin 31 => dutyTok ER (cell 0 c (stepPlace k)) 0 0)
    ∗ bigSep Finset.univ (fun k : Fin 31 => dutyTok ER (cell 1 (peer c k) c) 0 0)
    ∗ bigSep Finset.univ (fun k : Fin 31 => dutyTok ER (cell 2 c (stepPlace k)) 0 0)
    ∗ bigSep Finset.univ (fun k : Fin 31 => dutyTok ER (cell 3 (peer c k) c) 0 0))

/-- What the other devices will pay device `c`. -/
def creds (c : Dev nD) : sProp 𝕄 :=
  iprop(cred (tallyAt (barCell c) () 31)
    ∗ bigSep Finset.univ (fun k : Fin 31 => cred (tallyAt (cell 1 c (peer c k)) () N))
    ∗ bigSep Finset.univ (fun k : Fin 31 => cred (tallyAt (cell 3 c (peer c k)) () N)))

/-- Before the body. -/
def Φ₀ (c : Dev nD) : sProp 𝕄 :=
  iprop(((∃ K, ghost m K c) ∗ creds c) ∗ (∃ f : Buf (Elt F) (accLoc c), accLoc c ↦{fullShare} f) ∗ (∃ f : Buf (Elt F) (rsLoc c), rsLoc c ↦{fullShare} f))

/-- After it: every semaphore is back at zero. -/
def Φ₁ (c : Dev nD) : sProp 𝕄 :=
  iprop(((∃ f : Buf (Elt F) (accLoc c), accLoc c ↦{fullShare} f) ∗ (∃ f : Buf (Elt F) (rsLoc c), rsLoc c ↦{fullShare} f))
    ∗ bigSep Finset.univ (fun p : Fin 4 × Dev nD => semVal (cell p.1 c p.2) 0) ∗ semVal (barCell c) 0)

/-- The launch's data: what each operand's buffer holds after the body, what the body starts from and ends with, what is owed. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => rwC m c
    | ⟨2, _⟩ => ixC m c
    | ⟨3, _⟩ => ewC m c
    | ⟨4, _⟩ => swC m c
    | ⟨5, _⟩ => outB m
  Φ t := match t with
    | ⟨0, _⟩ => Φ₀ m c
    | ⟨_ + 1, _⟩ => Φ₁ c
  q _ := fullShare
  owed t := match t with
    | ⟨0, _⟩ => O₀ c
    | ⟨_ + 1, _⟩ => 0

/-- Holding a whole buffer's memref is holding the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Buffer `b` of device `c` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Loads and stores of whole buffers -/

/-- The origin, in two and in three dimensions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Loading a whole operand or all slabs reads what the buffer holds, -/
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ f
theorem read_rw (f : (cc0_stg1_0 : Ref sig .tc).ty.Contents (Elt F)) :
    rwM.view.readAt (Elt F) (Rect.unit (s := S256x64) ![0, 0] S256x64.size inb_S256x64_S256x64_0_0).toLoadRect f = f :=
  Memref.readAt_unit_zero (Elt F) cc0_stg1_0 hz2 _ f
theorem read_ix (f : (cc0_stg2_0 : Ref sig .tc).ty.Contents (Elt F)) :
    ixM.view.readAt (Elt F) (Rect.unit (s := S512x1) ![0, 0] S512x1.size inb_S512x1_S512x1_0_0).toLoadRect f = f :=
  Memref.readAt_unit_zero (Elt F) cc0_stg2_0 hz2 _ f
theorem read_sw (f : (cc0_stg4_0 : Ref sig .tc).ty.Contents (Elt F)) :
    swM.view.readAt (Elt F) (Rect.unit (s := S256x512) ![0, 0] S256x512.size inb_S256x512_S256x512_0_0).toLoadRect f = f :=
  Memref.readAt_unit_zero (Elt F) cc0_stg4_0 hz2 _ f
theorem read_rs (f : (cc0_scratch1 : Ref sig .tc).ty.Contents (Elt F)) :
    rsM.view.readAt (Elt F) (Rect.unit (s := S32x16x512) ![0, 0, 0] S32x16x512.size inb_S32x16x512_S32x16x512_0_0_0).toLoadRect f = f :=
  Memref.readAt_unit_zero (Elt F) cc0_scratch1 hz3 _ f
/-- and storing the whole share leaves what is stored. -/
theorem write_acc (f w : (cc0_scratch0 : Ref sig .tc).ty.Contents (Elt F)) :
    (accM.access (Rect.unit (s := S512x512) ![0, 0] S512x512.size inb_S512x512_S512x512_0_0) : View sig .tc _ _ _).write (Elt F) f w Finset.univ = w :=
  Memref.write_access_unit_zero_univ (Elt F) cc0_scratch0 hz2 _ f w

/-- The stored share, row block by row block. -/
theorem stored_acc (c : Dev nD) :
    ((accM.access (Rect.unit (s := S512x512) ![0, 0] S512x512.size inb_S512x512_S512x512_0_0) : View sig .tc _ _ _).loc (c : Thread nD τ) ↦{fullShare}
        accVal c (xC m c) (rwC m c) (ixC m c) (ewM.view.readAt (Elt F) ewRect0.toLoadRect (ewC m c)) (ewM.view.readAt (Elt F) ewRect1.toLoadRect (ewC m c)) : sProp 𝕄)
      = iprop((accLoc c ↦[rows c]{fullShare} accB m c) ∗ bigSep Finset.univ fun k : Fin 31 => accLoc c ↦[rows (peer c k)]{fullShare} accB m c) :=
  split_acc c (accB m c)

/-- The device's own rows of its share, stored to its own slab. -/
theorem stored_rs (c : Dev nD) (f : (cc0_scratch1 : Ref sig .tc).ty.Contents (Elt F)) :
    ((rsM.access (ownSlab c)).loc (c : Thread nD τ) ↦[slab c]{fullShare}
        (rsM.access (ownSlab c)).write (Elt F) f (k0_pay7 ((accM.access (ownRect c)).read (Elt F) (accB m c))) Finset.univ : sProp 𝕄)
      = (rsLoc c ↦[slab c]{fullShare} rsB m c) :=
  pointsTo_congr (ℓ := rsLoc c) (storedA (accB m) c f)

/-- The device's own rows of the result, stored. -/
theorem stored_out (c : Dev nD) (f : (cc0_stg5_0 : Ref sig .tc).ty.Contents (Elt F)) :
    ((outM.access (ownRect c)).loc (c : Thread nD τ) ↦[rows c]{fullShare}
        (outM.access (ownRect c)).write (Elt F) f (k0_pay9 (k0_pay8 (xM.view.readAt (Elt F) (xoRect c).toLoadRect (xC m c)) (swC m c)) (rsB m c)) Finset.univ : sProp 𝕄)
      = (outLoc c ↦[rows c]{fullShare} outB m) :=
  pointsTo_congr (ℓ := outLoc c) (storedB (partB m) c f)

/-! ## The body -/

variable (K : Dev nD × Key → ℕ)

/-- What a device starts its body with: its records, places, tokens and credits, its debts, and all its buffers. -/
def bodyPre (c : Dev nD) : sProp 𝕄 :=
  iprop(((ghost m K c ∗ creds c) ∗ (∃ f : Buf (Elt F) (accLoc c), accLoc c ↦{fullShare} f) ∗ (∃ f : Buf (Elt F) (rsLoc c), rsLoc c ↦{fullShare} f))
    ∗ owing c (O₀ c)
    ∗ (((c : Thread nD τ).loc cc0_stg0_0) ↦{fullShare} xC m c) ∗ (((c : Thread nD τ).loc cc0_stg1_0) ↦{fullShare} rwC m c)
    ∗ (((c : Thread nD τ).loc cc0_stg2_0) ↦{fullShare} ixC m c) ∗ (((c : Thread nD τ).loc cc0_stg3_0) ↦{fullShare} ewC m c)
    ∗ (((c : Thread nD τ).loc cc0_stg4_0) ↦{fullShare} swC m c) ∗ (∃ f : Buf (Elt F) (outLoc c), outLoc c ↦{fullShare} f))

/-- What it ends with: nothing owed, its operands unchanged, and the result in its buffer. -/
def bodyPost (c : Dev nD) : sProp 𝕄 :=
  iprop(Φ₁ c ∗ owing c 0
    ∗ (((c : Thread nD τ).loc cc0_stg0_0) ↦{fullShare} xC m c) ∗ (((c : Thread nD τ).loc cc0_stg1_0) ↦{fullShare} rwC m c)
    ∗ (((c : Thread nD τ).loc cc0_stg2_0) ↦{fullShare} ixC m c) ∗ (((c : Thread nD τ).loc cc0_stg3_0) ↦{fullShare} ewC m c)
    ∗ (((c : Thread nD τ).loc cc0_stg4_0) ↦{fullShare} swC m c) ∗ (outLoc c ↦{fullShare} outB m))

set_option maxHeartbeats 1600000 in
/-- The body run from `bodyPre` ends with `bodyPost`. -/
theorem sound_body (c : Dev nD) (Q : PUnit → sProp 𝕄) :
    iprop(bodyPre m K c ∗ (bodyPost m c -∗ Q ⟨⟩))
      ⊢ wp frame (wpE (defs₀ (F := F)) 𝒱₀ (c : Thread nD τ) none) Set.univ
          (bodyOf xM rwM ixM ewM swM outM accM rsM cc0_scratch2 cc0_scratch3 cc0_scratch4 cc0_scratch5) Q := by
  unfold bodyOf
  rw [wp_deviceId]
  unfold bodyPre ghost creds
  rw [bigSep_cells c fun a j => (atPos ER (cell a c j) 0 ∅ 0 : sProp 𝕄)]
  iintro ⟨⟨⟨⟨⟨#HR, HatB, ⟨⟨Hi0, Hat0⟩, ⟨Hi1, Hat1⟩, ⟨Hi2, Hat2⟩, ⟨Hi3, Hat3⟩⟩, HtB, Ht0, Ht1, Ht2, Ht3⟩, HcB, Hc1, Hc3⟩, ⟨%fa, Hacc⟩, ⟨%fr, Hrs⟩⟩,
    Ho, Hx, Hrw, Hix, Hew, Hsw, ⟨%fo, Hout⟩⟩, Hk⟩
  -- each other device is lent its slab and its rows of the result
  ihave Hl := (lend c fr fo) $$ [Hrs Hout]
  · isplitl [Hrs] <;> iassumption
  icases Hl with ⟨Hrs, Hout, Hlend⟩
  iapply (loop_signal m K c Q _) $$ [HtB Hlend Ho]
  · isplitr; · iexact HR
    isplitl [HtB Hlend]
    · rw [bigSep_sep']
      isplitl [Hlend] <;> iassumption
    iexact Ho
  iintro Ho
  -- the barrier
  simp only [semWaitWord, Prog.lift, Prog.bind_op, Prog.bind_ret, Prog.pure_eq_ret]
  unfold owing
  icases Ho with ⟨%W, Ho⟩
  iapply (Rounds.wp_wait_rest_token 𝒱₀ ER (moeRd m) (c : Thread nD τ) none (κ := K (c, none))
      (wpE_semWait_eq 𝒱₀ (c : Thread nD τ) none Set.univ) (Set.mem_univ _) () (O := sumT (owedB c) steps + sumT (owedA c) steps) (W := W) (R := 0) (m := 0) (T := ∅)
      (by rw [expect_bar]; decide)) $$ [HcB Ho HatB]
  · isplitr; · iapply (recs_inv m K (c, none)); iexact HR
    isplitl [HcB]; · iexact HcB
    isplitl [Ho]; · iexact Ho
    isplitr; · iapply (recs_bar m K c); iexact HR
    iexact HatB
  iintro ⟨Ho, HatB, -, Hpay⟩
  ihave Hp := (Entails.of_eq ((rest_bar m c).trans (lent c))) $$ Hpay
  icases Hp with ⟨Hrsl, Houtl⟩
  imod (Rounds.cell_close ER (moeRd m) (Set.mem_univ (K (c, none))) (fun h => h) (R := 0 + 1) (duties_later m (barCell c))) $$ [HatB] with HzB
  · isplitr; · iapply (recs_inv m K (c, none)); iexact HR
    iexact HatB
  -- the device's experts' share
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := ixM) (Finset.subset_univ _)) $$ Hix; iintro Hix
  rw [read_ix]
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := accM) (Finset.subset_univ _)) $$ Hacc; iintro Hacc
  iapply (wp_store 𝒱₀ (c : Thread nD τ) none Set.univ (m := accM) (r := Rect.unit (s := S512x512) ![0, 0] S512x512.size inb_S512x512_S512x512_0_0) (Mk := Finset.univ) (Finset.subset_univ _)) $$ Hacc; iintro Hacc
  rw [write_acc]
  ihave Hacc := (Entails.of_eq (stored_acc m c)) $$ Hacc
  icases Hacc with ⟨Hacc, Haccs⟩
  -- the first exchange
  iapply (loop_sendA m K c Q _) $$ [Haccs Hrsl Ht0 Ht1 Ho]
  · isplitr; · iexact HR
    isplitl [Haccs Hrsl Ht0 Ht1]
    · rw [bigSep_sep', bigSep_sep', bigSep_sep']
      isplitl [Haccs]; · iexact Haccs
      isplitl [Hrsl]; · iexact Hrsl
      isplitl [Ht0] <;> iassumption
    unfold owing
    iexists _
    iexact Ho
  iintro ⟨Hc0, Ho⟩
  iapply (wp_load_rect 𝒱₀ (c : Thread nD τ) none Set.univ (m := accM) (r := ownRect c) (Finset.subset_of_eq (accM_access_set c))) $$ Hacc; iintro Hacc
  iapply (wp_load_rect 𝒱₀ (c : Thread nD τ) none Set.univ (m := rsM) (r := ownSlab c) (Finset.subset_of_eq (rsM_access_set c))) $$ Hrs; iintro Hrs
  iapply (wp_store 𝒱₀ (c : Thread nD τ) none Set.univ (m := rsM) (r := ownSlab c) (Mk := Finset.univ) (Finset.subset_of_eq (rsM_access_set c))) $$ Hrs; iintro Hrs
  ihave Hrs := (Entails.of_eq (stored_rs m c fr)) $$ Hrs
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  rw [read_sw]
  iapply (loop_recvA m K c Q _) $$ [Hc1 Hat1 Ho]
  · isplitr; · iexact HR
    isplitl [Hc1 Hat1]
    · rw [bigSep_sep']
      isplitl [Hc1] <;> iassumption
    iexact Ho
  rw [bigSep_sep']
  iintro ⟨⟨Hz1, Hrss⟩, Ho⟩
  ihave Hrs := (Entails.of_eq (split_rs c (rsB m c)).symm) $$ [Hrs Hrss]
  · isplitl [Hrs]; · iexact Hrs
    iexact Hrss
  iapply (wp_load 𝒱₀ (c : Thread nD τ) none Set.univ (m := rsM) (Finset.subset_univ _)) $$ Hrs; iintro Hrs
  rw [read_rs]
  -- the device's own rows of the result
  iapply (wp_load_rect 𝒱₀ (c : Thread nD τ) none Set.univ (m := outM) (r := ownRect c) (Finset.subset_of_eq (outM_access_set c))) $$ Hout; iintro Hout
  iapply (wp_store 𝒱₀ (c : Thread nD τ) none Set.univ (m := outM) (r := ownRect c) (Mk := Finset.univ) (Finset.subset_of_eq (outM_access_set c))) $$ Hout; iintro Hout
  ihave Hout := (Entails.of_eq (stored_out m c fo)) $$ Hout
  ihave Hout := (Transfers.pointsTo_toks_split (ℓ := outLoc c) (f := outB m) fullShare 31) $$ Hout
  icases Hout with ⟨Hout, Houts⟩
  -- the second exchange
  iapply (loop_sendB m K c Q _) $$ [Houts Houtl Ht2 Ht3 Ho]
  · isplitr; · iexact HR
    isplitl [Houts Houtl Ht2 Ht3]
    · rw [bigSep_sep', bigSep_sep', bigSep_sep']
      isplitl [Houts]; · iexact Houts
      isplitl [Houtl]; · iexact Houtl
      isplitl [Ht2] <;> iassumption
    iexact Ho
  iintro ⟨Hc2, Ho⟩
  iapply (loop_sentA m K c Q _) $$ [Hc0 Hat0 Ho]
  · isplitr; · iexact HR
    isplitl [Hc0 Hat0]
    · rw [bigSep_sep']
      isplitl [Hc0] <;> iassumption
    iexact Ho
  rw [bigSep_sep']
  iintro ⟨⟨Hz0, Haccs⟩, Ho⟩
  ihave Haccs := (Entails.of_eq (bigSep_congr (s := Finset.univ) fun k _ => dmaPay_zero m c k)) $$ Haccs
  iapply (loop_recvB m K c Q _) $$ [Hc3 Hat3 Ho]
  · isplitr; · iexact HR
    isplitl [Hc3 Hat3]
    · rw [bigSep_sep']
      isplitl [Hc3] <;> iassumption
    iexact Ho
  rw [bigSep_sep']
  iintro ⟨⟨Hz3, Hother⟩, Ho⟩
  iapply (loop_sentB m K c Q _) $$ [Hc2 Hat2 Ho]
  · isplitr; · iexact HR
    isplitl [Hc2 Hat2]
    · rw [bigSep_sep']
      isplitl [Hc2] <;> iassumption
    iexact Ho
  rw [bigSep_sep']
  iintro ⟨⟨Hz2, Houts⟩, Ho⟩
  -- the buffers whole again, the semaphores at zero
  ihave Hout := (Transfers.pointsTo_toks_join (ℓ := outLoc c) (f := outB m) fullShare 31) $$ [Hout Houts]
  · isplitl [Hout]; · iexact Hout
    iexact Houts
  ihave Hout := (Entails.of_eq (split_out c (outB m)).symm) $$ [Hout Hother]
  · isplitl [Hout]; · iexact Hout
    iexact Hother
  ihave Hacc := (Entails.of_eq (split_acc c (accB m c)).symm) $$ [Hacc Haccs]
  · isplitl [Hacc]; · iexact Hacc
    iexact Haccs
  imod (idle_close m K c 0 lastPlace (by decide +revert)) $$ [Hi0] with Hi0
  · isplitr; · iexact HR
    iexact Hi0
  imod (idle_close m K c 1 c (fun h => h rfl)) $$ [Hi1] with Hi1
  · isplitr; · iexact HR
    iexact Hi1
  imod (idle_close m K c 2 lastPlace (by decide +revert)) $$ [Hi2] with Hi2
  · isplitr; · iexact HR
    iexact Hi2
  imod (idle_close m K c 3 c (fun h => h rfl)) $$ [Hi3] with Hi3
  · isplitr; · iexact HR
    iexact Hi3
  rw [wp_ret]; imodintro
  iapply Hk
  unfold bodyPost Φ₁
  rw [bigSep_cells c fun a j => (semVal (cell a c j) 0 : sProp 𝕄)]
  isplitl [Hacc Hrs Hi0 Hz0 Hi1 Hz1 Hi2 Hz2 Hi3 Hz3 HzB]
  · isplitl [Hacc Hrs]
    · isplitl [Hacc]
      · iexists _; iexact Hacc
      · iexists _; iexact Hrs
    isplitl [Hi0 Hz0 Hi1 Hz1 Hi2 Hz2 Hi3 Hz3]
    · isplitl [Hi0 Hz0]; · isplitl [Hi0] <;> iassumption
      isplitl [Hi1 Hz1]; · isplitl [Hi1] <;> iassumption
      isplitl [Hi2 Hz2]; · isplitl [Hi2] <;> iassumption
      isplitl [Hi3] <;> iassumption
    iexact HzB
  isplitl [Ho]; · iexact Ho
  isplitl [Hx]; · iexact Hx
  isplitl [Hrw]; · iexact Hrw
  isplitl [Hix]; · iexact Hix
  isplitl [Hew]; · iexact Hew
  isplitl [Hsw]; · iexact Hsw
  iexact Hout

end Cert.KernelIdeal.Moe
-- ==== Proof.Run.lean ====
module

public import proofs.«01_k».proof.Proof.Sound

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

local notation "𝕄" => MT nD τ sig Unit (Elt F) ℕ UU ℕ

variable (m : (ℓ : Loc nD τ sig) → Buf (Elt F) ℓ)

/-! ## The body as the launch asks for it -/

/-- What the launch gives the body. -/
def bodyIn (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- What the launch wants back. -/
def bodyOut (c : Dev nD) : sProp 𝕄 :=
  iprop(Φ₁ c ∗ (dats m 0 c).owesAt () t0_0.succ ∗ stg c cc0_stg0_0 (xC m c) ∗ stg c cc0_stg1_0 (rwC m c) ∗ stg c cc0_stg2_0 (ixC m c)
    ∗ stg c cc0_stg3_0 (ewC m c) ∗ stg c cc0_stg4_0 (swC m c) ∗ stg c cc0_stg5_0 (outB m))

/-- Each operand's staging buffer holds the operand when the body starts. -/
theorem before_x (c : Dev nD) (d) : (dats m 0 c).before (0 : Fin 6) t0_0 d = xC m c := by
  unfold Dat.before; rw [if_pos (fetch0_0 t0_0)]; rfl
theorem before_rw (c : Dev nD) (d) : (dats m 0 c).before (1 : Fin 6) t0_0 d = rwC m c := by
  unfold Dat.before; rw [if_pos (fetch0_1 t0_0)]; rfl
theorem before_ix (c : Dev nD) (d) : (dats m 0 c).before (2 : Fin 6) t0_0 d = ixC m c := by
  unfold Dat.before; rw [if_pos (fetch0_2 t0_0)]; rfl
theorem before_ew (c : Dev nD) (d) : (dats m 0 c).before (3 : Fin 6) t0_0 d = ewC m c := by
  unfold Dat.before; rw [if_pos (fetch0_3 t0_0)]; rfl
theorem before_sw (c : Dev nD) (d) : (dats m 0 c).before (4 : Fin 6) t0_0 d = swC m c := by
  unfold Dat.before; rw [if_pos (fetch0_4 t0_0)]; rfl

/-- A buffer that holds something known holds it. -/
theorem stg_elim (c : Dev nD) (b : Ref sig .tc) (X : b.ty.Contents (Elt F)) : stg c b X ⊢ (((c : Thread nD τ).loc b) ↦{fullShare} X : sProp 𝕄) := by
  iintro ⟨%f, %h, H⟩
  subst h
  iexact H
/-- And the other way. -/
theorem stg_intro (c : Dev nD) (b : Ref sig .tc) (X : b.ty.Contents (Elt F)) : (((c : Thread nD τ).loc b) ↦{fullShare} X : sProp 𝕄) ⊢ stg c b X := by
  iintro H
  iexists X
  isplitr; · (ipureintro; rfl)
  iexact H

/-- What the launch gives is what the body starts with, -/
theorem bodyIn_pre (c : Dev nD) : bodyIn m c ⊢ iprop(∃ K, bodyPre m K c) := by
  unfold bodyIn Φ₀ bodyPre
  iintro ⟨⟨⟨⟨%K, Hg⟩, Hc⟩, Ha, Hr⟩, Ho, ⟨%d0, H0⟩, ⟨%d1, H1⟩, ⟨%d2, H2⟩, ⟨%d3, H3⟩, ⟨%d4, H4⟩, ⟨%d5, H5⟩⟩
  rw [before_x, before_rw, before_ix, before_ew, before_sw]
  iexists K
  isplitl [Hg Hc Ha Hr]
  · isplitl [Hg Hc]
    · isplitl [Hg] <;> iassumption
    isplitl [Ha] <;> iassumption
  isplitl [Ho]
  · unfold Dat.owesAt Pipeline.owesWithin owing
    icases Ho with ⟨%W, %hW, Ho⟩
    iexists W
    iexact Ho
  isplitl [H0]; · iapply (stg_elim c cc0_stg0_0); iexact H0
  isplitl [H1]; · iapply (stg_elim c cc0_stg1_0); iexact H1
  isplitl [H2]; · iapply (stg_elim c cc0_stg2_0); iexact H2
  isplitl [H3]; · iapply (stg_elim c cc0_stg3_0); iexact H3
  isplitl [H4]; · iapply (stg_elim c cc0_stg4_0); iexact H4
  iexists _
  iapply (stg_elim c cc0_stg5_0)
  iexact H5

/-- and what the body ends with is what the launch wants. -/
theorem bodyPost_out (c : Dev nD) : bodyPost m c ⊢ bodyOut m c := by
  unfold bodyPost bodyOut
  iintro ⟨HΦ, Ho, H0, H1, H2, H3, H4, H5⟩
  isplitl [HΦ]; · iexact HΦ
  isplitl [Ho]
  · unfold Dat.owesAt Pipeline.owesWithin owing
    icases Ho with ⟨%W, Ho⟩
    iexists W
    isplitr; · ipureintro; exact fun _ _ => Or.inl trivial
    iexact Ho
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0); iexact H5

/-- The body with loops runs as the launch asks. -/
theorem body_runs (c : Dev nD) :
    bodyIn m c ⊢ wp frame (wpE (defs₀ (F := F)) 𝒱₀ (c : Thread nD τ) none) Set.univ
      (bodyOf xM rwM ixM ewM swM outM accM rsM cc0_scratch2 cc0_scratch3 cc0_scratch4 cc0_scratch5) (fun _ => bodyOut m c) := by
  iintro H
  ihave H := (bodyIn_pre m c) $$ H
  icases H with ⟨%K, H⟩
  iapply (sound_body m K c fun _ => bodyOut m c)
  isplitl [H]; · iexact H
  iintro H
  iapply (bodyPost_out m c)
  iexact H

set_option maxRecDepth 65536 in
/-- What the launch asks of the body. -/
theorem body_obligation (c : Dev nD) : BodyObligation (dats (F := F) m 0 c) (defs₀ (F := F)) 𝒱₀ () Set.univ := fun t => by
  rw [fin_N0 t, bigSep_W0, bigSep_W0]
  simp only [owns_whole_eq]
  show bodyIn m c ⊢ wp frame (wpE (defs₀ (F := F)) 𝒱₀ (c : Thread nD τ) none) Set.univ
    (cc0_body xM (Memref.isWhole_whole _) rwM (Memref.isWhole_whole _) ixM (Memref.isWhole_whole _) ewM (Memref.isWhole_whole _)
      swM (Memref.isWhole_whole _) outM (Memref.isWhole_whole _) accM (Memref.isWhole_whole _) rsM (Memref.isWhole_whole _)
      cc0_scratch2 cc0_scratch3 cc0_scratch4 cc0_scratch5) (fun _ => bodyOut m c)
  rw [body_eq]
  exact body_runs m c

end Cert.KernelIdeal.Moe
-- ==== Proof.Start.lean ====
module

public import proofs.«01_k».proof.Proof.Run

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

local notation "𝕄" => MT nD τ sig Unit (Elt F) ℕ UU ℕ

variable (m : (ℓ : Loc nD τ sig) → Buf (Elt F) ℓ)

/-! ## The semaphores and the tokens there are -/

/-- A semaphore's number determines its array and its place. -/
theorem dcell_injective (a a' : Fin 4) (j j' : Dev nD) (h : dcell a j = dcell a' j') : a = a' ∧ j = j' :=
  ⟨Fin.ext (by rw [← kindOf_dcell a j, h, kindOf_dcell]), by rw [← placeOf_dcell a j, h, placeOf_dcell]⟩

/-- A cell determines its array, its device and its place. -/
theorem cell_injective {a a' : Fin 4} {c c' j j' : Dev nD} (h : cell a c j = cell a' c' j') : a = a' ∧ c = c' ∧ j = j' := by
  have h1 : dcell a j = dcell a' j' := SemLoc.dma.inj (congrArg (fun g : GSem nD τ sig => g.2) h)
  exact ⟨(dcell_injective _ _ _ _ h1).1, congrArg (fun g : GSem nD τ sig => g.1.1) h, (dcell_injective _ _ _ _ h1).2⟩

/-- A barrier determines its device. -/
theorem bar_injective {c c' : Dev nD} (h : barCell c = barCell c') : c = c' := congrArg (fun g : GSem nD τ sig => g.1.1) h

/-- A barrier is none of the arrays' semaphores. -/
theorem bar_ne_cell {a : Fin 4} {c c' j : Dev nD} (h : barCell c = cell a c' j) : False := by
  have h1 : (SemLoc.reg barS : SemLoc sig) = .dma (dcell a j) := congrArg (fun g : GSem nD τ sig => g.2) h
  cases h1

/-- The cells of all devices are different. -/
theorem kcell_injective : Function.Injective (kcell : Dev nD × Key → GSem nD τ sig) := by
  rintro ⟨c, k⟩ ⟨c', k'⟩ h
  match k, k', h with
  | none, none, h => exact congrArg (fun d => (d, (none : Key))) (bar_injective h)
  | none, some (a, j), h => exact (bar_ne_cell h).elim
  | some (a, j), none, h => exact (bar_ne_cell h.symm).elim
  | some (a, j), some (a', j'), h =>
    obtain ⟨rfl, rfl, rfl⟩ := cell_injective h
    rfl

/-- All cells of all devices. -/
def moeCells : Finset (GSem nD τ sig) := Finset.univ.map ⟨kcell, kcell_injective⟩

/-- The tokens device `c` pays with at step `k`. -/
def tokOf (p : Dev nD × Fin 5 × Fin 31) : GSem nD τ sig × ℕ × Fin 31 := match p.2.1 with
  | 0 => (barCell (peer p.1 p.2.2), 0, p.2.2.rev)
  | 1 => (cell 0 p.1 (stepPlace p.2.2), 0, 0)
  | 2 => (cell 1 (peer p.1 p.2.2) p.1, 0, 0)
  | 3 => (cell 2 p.1 (stepPlace p.2.2), 0, 0)
  | 4 => (cell 3 (peer p.1 p.2.2) p.1, 0, 0)

/-- Which of the five a token is, read off its semaphore. -/
def tagOf (x : GSem nD τ sig × ℕ × Fin 31) : ℕ := match x.1.2 with
  | .reg _ => 0
  | .dma q => kindOf q + 1

/-- A token's kind is read off it. -/
theorem tagOf_tokOf (p : Dev nD × Fin 5 × Fin 31) : tagOf (tokOf p) = p.2.1.val := by
  obtain ⟨c, t, k⟩ := p
  match t with
  | 0 => rfl
  | 1 => exact congrArg (· + 1) (kindOf_dcell 0 _)
  | 2 => exact congrArg (· + 1) (kindOf_dcell 1 _)
  | 3 => exact congrArg (· + 1) (kindOf_dcell 2 _)
  | 4 => exact congrArg (· + 1) (kindOf_dcell 3 _)

/-- The tokens are different. -/
theorem tokOf_injective : Function.Injective tokOf := by
  rintro ⟨c, t, k⟩ ⟨c', t', k'⟩ h
  have ht : t = t' := Fin.ext (by rw [← tagOf_tokOf (c, t, k), h, tagOf_tokOf])
  subst ht
  have hg := congrArg Prod.fst h
  match t, h, hg with
  | 0, h, hg =>
    have hk : k = k' := Fin.rev_injective (congrArg (fun x : GSem nD τ sig × ℕ × Fin 31 => x.2.2) h)
    subst hk
    have hc : c = c' := peer_left_injective k (bar_injective hg)
    rw [hc]
  | 1, h, hg =>
    obtain ⟨-, hc, hk⟩ := cell_injective hg
    exact Prod.ext hc (Prod.ext rfl (stepPlace_injective hk))
  | 2, h, hg =>
    obtain ⟨-, hp, hc⟩ := cell_injective hg
    have hc : c = c' := hc
    subst hc
    exact Prod.ext rfl (Prod.ext rfl (peer_injective c hp))
  | 3, h, hg =>
    obtain ⟨-, hc, hk⟩ := cell_injective hg
    exact Prod.ext hc (Prod.ext rfl (stepPlace_injective hk))
  | 4, h, hg =>
    obtain ⟨-, hp, hc⟩ := cell_injective hg
    have hc : c = c' := hc
    subst hc
    exact Prod.ext rfl (Prod.ext rfl (peer_injective c hp))

/-- All tokens of all devices. -/
def moeToks : Finset (GSem nD τ sig × ℕ × Fin 31) := Finset.univ.map ⟨tokOf, tokOf_injective⟩

/-- The ghost state at the launch: the pipeline's and the exchange's. -/
def u₀ : UU :=
  (initOf (Pipeline.cells cfgs cellOf_inj) (Pipeline.launchToks cfgs cellOf_inj), initOf moeCells moeToks)

/-- The tokens device `c` pays with. -/
def payToks (c : Dev nD) : sProp 𝕄 :=
  iprop(bigSep Finset.univ (fun k : Fin 31 => dutyTok ER (barCell (peer c k)) 0 k.rev)
    ∗ bigSep Finset.univ (fun k : Fin 31 => dutyTok ER (cell 0 c (stepPlace k)) 0 0)
    ∗ bigSep Finset.univ (fun k : Fin 31 => dutyTok ER (cell 1 (peer c k) c) 0 0)
    ∗ bigSep Finset.univ (fun k : Fin 31 => dutyTok ER (cell 2 c (stepPlace k)) 0 0)
    ∗ bigSep Finset.univ (fun k : Fin 31 => dutyTok ER (cell 3 (peer c k) c) 0 0))

/-- Something for each semaphore of a device: for its barrier, and for each of its arrays'. -/
theorem bigSep_key (Φ : Key → sProp 𝕄) :
    bigSep Finset.univ Φ = iprop(Φ none ∗ bigSep Finset.univ fun p : Fin 4 × Dev nD => Φ (some p)) := by
  have hu : (Finset.univ : Finset Key) = insert none (Finset.univ.map Function.Embedding.some) := by
    ext x
    simp only [Finset.mem_univ, Finset.mem_insert, Finset.mem_map, true_and, true_iff, Function.Embedding.some_apply]
    cases x with
    | none => exact .inl rfl
    | some p => exact .inr ⟨p, rfl⟩
  rw [hu, bigSep_insert (fun h => by
    obtain ⟨p, -, hp⟩ := Finset.mem_map.mp h
    cases hp), bigSep_map]
  rfl

/-- What the launch deals device `c`: the state of its semaphores, its places there, and the tokens it pays with. -/
def G (c : Dev nD) : sProp 𝕄 :=
  iprop((bigSep Finset.univ fun k : Key => roundState ER (moeRd m) (kcell (c, k)) 0)
    ∗ ((bigSep Finset.univ fun k : Key => atPos ER (kcell (c, k)) 0 ∅ 0) ∗ (bigSep Finset.univ fun k : Key => reached ER (kcell (c, k)) 0)) ∗ payToks c)

/-- The exchange's ghost state is every device's share of it. -/
theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun k : Key => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => payToks c := by
    unfold moeToks; rw [bigSep_map, bigSep_univ_prod]
    refine bigSep_congr fun c _ => ?_
    rw [bigSep_univ_prod, bigSep_univ_eq_bigSepL [0, 1, 2, 3, 4] (by decide) (by decide), bigSepL_cons_cons, bigSepL_cons_cons, bigSepL_cons_cons,
      bigSepL_cons_cons, bigSepL_singleton]
    rfl
  iintro HX
  imod (Rounds.fund ER (moeRd m) moeCells moeToks) $$ HX with ⟨Hst, Hr, Hat, Htok⟩
  imodintro
  ihave Hst := (Entails.of_eq (hX fun g => roundState ER (moeRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores' records are made, those of all devices at once -/

/-- The kernel's own semaphores: the four arrays of 32. -/
def osem (p : Fin 4 × Dev nD) : SemLoc sig := .dma (dcell p.1 p.2)

/-- The semaphore that lives outside the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores are the four arrays'. -/
theorem ownSems0_eq (c : Dev nD) : (Pipeline.ownSems0 (Ix := Unit) (Name := ℕ) (U := UU) (Lvl := ℕ) (Val := Elt F) (τ := τ) osem c : sProp 𝕄)
    = bigSep Finset.univ fun p : Fin 4 × Dev nD => semVal (cell p.1 c p.2) 0 := rfl

/-- Device `c` after its records are made, each under some name. -/
def made (c : Dev nD) : sProp 𝕄 :=
  iprop((bigSep Finset.univ fun k : Key => iprop(∃ κ : ℕ, cellInv ER (moeRd m) κ (kcell (c, k))))
    ∗ ((bigSep Finset.univ fun k : Key => atPos ER (kcell (c, k)) 0 ∅ 0) ∗ (bigSep Finset.univ fun k : Key => reached ER (kcell (c, k)) 0)) ∗ payToks c)

/-- A device's semaphores at zero become its records. -/
theorem make (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  have hmk : iprop((bigSep Finset.univ fun k : Key => semVal (kcell (c, k)) 0) ∗ bigSep Finset.univ fun k : Key => roundState ER (moeRd m) (kcell (c, k)) 0)
      ⊢ (|={Set.univ}=> bigSep Finset.univ fun k : Key => iprop(∃ κ : ℕ, cellInv ER (moeRd m) κ (kcell (c, k))) : sProp 𝕄) := by
    rw [← bigSep_sep']
    exact (bigSep_mono fun k _ => (Rounds.body_intro ER (moeRd m) (kcell (c, k))).trans inv_alloc).trans (bigSep_fupd _ _)
  unfold G made
  rw [ownSems0_eq, unscopedSems0_eq]
  iintro ⟨Hos, Hus, Hst, Hat, Htok⟩
  imod hmk $$ [Hos Hus Hst] with Hinv
  · isplitl [Hos Hus]
    · rw [bigSep_key]
      isplitl [Hus]; · iexact Hus
      iexact Hos
    iexact Hst
  imodintro
  isplitl [Hinv]; · iexact Hinv
  isplitl [Hat]; · iexact Hat
  iexact Htok

/-- The records every device shares, before the order of waits is joined to them. -/
def known (K : Dev nD × Key → ℕ) : sProp 𝕄 :=
  iprop(bigSep Finset.univ (fun ck : Dev nD × Key => cellInv ER (moeRd m) (K ck) (kcell ck))
    ∗ bigSep Finset.univ (fun ck : Dev nD × Key => reached ER (kcell ck) 0))

/-- They may be used any number of times. -/
instance known_persistent (K : Dev nD × Key → ℕ) : BI.Persistent (known m K) := by unfold known; infer_instance

/-- What device `c` has besides: its places and its tokens. -/
def held (c : Dev nD) : sProp 𝕄 := iprop((bigSep Finset.univ fun k : Key => atPos ER (kcell (c, k)) 0 ∅ 0) ∗ payToks c)

/-- What device `c` has once the records of all devices are shared. -/
def G' (c : Dev nD) : sProp 𝕄 := iprop(∃ K, known m K ∗ held c)

/-- The devices' records are shared among all. -/
theorem share_out : (bigSep Finset.univ fun c : Dev nD => made m c) ⊢ (bigSep Finset.univ (G' m) : sProp 𝕄) := by
  unfold made
  rw [bigSep_sep', bigSep_sep', bigSep_sep', ← bigSep_univ_prod (fun ck : Dev nD × Key => iprop(∃ κ : ℕ, cellInv ER (moeRd m) κ (kcell ck))),
    ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (moeRd m) κ (kcell ck) : sProp 𝕄))) $$ HI
  icases HK with ⟨%K, #HI⟩
  have h1 (c : Dev nD) : iprop(known m K ∗ held c) ⊢ G' m c := by
    unfold G'
    iintro H
    iexists K
    iexact H
  have hd : iprop(known m K ∗ bigSep Finset.univ fun c : Dev nD => (held c : sProp 𝕄)) ⊢ bigSep Finset.univ (G' m) := by
    refine (sep_mono_left (BI.bigSep_of_persistent (Finset.univ : Finset (Dev nD)) (known m K))).trans ?_
    rw [← bigSep_sep']
    exact bigSep_mono fun c _ => h1 c
  iapply hd
  isplitr
  · unfold known
    isplitl; · iexact HI
    iexact HR
  unfold held
  rw [bigSep_sep']
  isplitl [Hat]; · iexact Hat
  iexact Htok

/-- From all semaphores at zero every device gets its part. -/
theorem glob : (bigSep Finset.univ fun c : Dev nD => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (share_out m))

/-! ## What is owed is what will be paid -/

/-- Step `k` of device `d` meets step `k.rev` of the device it reaches. -/
def meet : Dev nD × Fin 31 ≃ Dev nD × Fin 31 where
  toFun p := (peer p.1 p.2, p.2.rev)
  invFun p := (peer p.1 p.2, p.2.rev)
  left_inv p := Prod.ext (peer_peer_rev p.1 p.2) (Fin.rev_rev p.2)
  right_inv p := Prod.ext (peer_peer_rev p.1 p.2) (Fin.rev_rev p.2)

/-- A sum over payers and steps is a sum over payees and steps. -/
theorem sum_meet (g : Dev nD → Dev nD → CT) : ∑ d, ∑ k : Fin 31, g (peer d k) d = ∑ d, ∑ k : Fin 31, g d (peer d k) := by
  rw [← Fintype.sum_prod_type' (fun d (k : Fin 31) => g (peer d k) d), ← Fintype.sum_prod_type' (fun d (k : Fin 31) => g d (peer d k)),
    ← Equiv.sum_comp meet]
  refine Finset.sum_congr rfl fun p _ => ?_
  show g (peer (peer p.1 p.2) p.2.rev) (peer p.1 p.2) = _
  rw [peer_peer_rev]

/-- 31 units are 31 times one. -/
theorem sum_ones (g : GSem nD τ sig) : ∑ _k : Fin 31, (tallyAt g () 1 : CT) = tallyAt g () 31 := by
  have h : ∀ n : ℕ, n • (tallyAt g () 1 : CT) = tallyAt g () n := fun n => by
    induction n with
    | zero => rw [zero_smul, tallyAt_zero]
    | succ n ih => rw [succ_nsmul, ih, tallyAt_add]
  rw [Finset.sum_const, Finset.card_univ, Fintype.card_fin, h]

/-- What device `c` is owed. -/
def due (c : Dev nD) : CT :=
  tallyAt (barCell c) () 31 + ((∑ k : Fin 31, tallyAt (cell 1 c (peer c k)) () N) + ∑ k : Fin 31, tallyAt (cell 3 c (peer c k)) () N)

/-- All that is owed is all that is due. -/
theorem sum_owed : ∑ d, O₀ d = ∑ d, due d := by
  unfold O₀ due
  simp only [sumT_steps, Finset.sum_add_distrib]
  rw [sum_meet (fun a b => tallyAt (cell 3 a b) () N), sum_meet (fun a b => tallyAt (cell 1 a b) () N), sum_meet (fun a _ => tallyAt (barCell a) () 1)]
  simp only [sum_ones]
  rw [add_comm, add_comm (∑ d, ∑ k : Fin 31, (tallyAt (cell 3 d (peer d k)) () N : CT))]

/-- What is due to a device is due at its own semaphores. -/
theorem due_own (d : Dev nD) (g : GSem nD τ sig) (h : due d g ≠ 0) : g.1 = (d : Thread nD τ) := by
  by_contra hn
  have hne : ∀ (g' : GSem nD τ sig) (k : ℕ), g'.1 = (d : Thread nD τ) → (tallyAt g' () k : CT) g = 0 :=
    fun g' k hg => tallyAt_ne_cell (fun e => hn ((congrArg Prod.fst e).trans hg)) () k
  apply h
  unfold due
  rw [Pi.add_apply, Pi.add_apply, Finset.sum_apply, Finset.sum_apply, Finset.sum_eq_zero fun k _ => hne (cell 1 d (peer d k)) N rfl,
    Finset.sum_eq_zero fun k _ => hne (cell 3 d (peer d k)) N rfl, hne (barCell d) 31 rfl, add_zero, add_zero]

/-- The right to a sum is the right to each term. -/
theorem cred_steps (f : Fin 31 → CT) : (cred (∑ k, f k) : sProp 𝕄) ⊢ bigSep Finset.univ fun k => cred (f k) := by
  have h : ∀ S : Finset (Fin 31), (cred (∑ k ∈ S, f k) : sProp 𝕄) ⊢ bigSep S fun k => cred (f k) := fun S => by
    induction S using Finset.induction_on with
    | empty => rw [Finset.sum_empty, cred_zero, bigSep_empty]; exact .refl
    | insert k S hk ih =>
      rw [Finset.sum_insert hk, bigSep_insert hk]
      exact (cred_add _ _).1.trans (sep_mono_right ih)
  exact h _

/-- A device gets the right to what is due to it. -/
theorem creds_intro (c : Dev nD) : (Pipeline.launchCred O₀ c : sProp 𝕄) ⊢ creds c := by
  rw [Pipeline.launchCred_of_sum O₀ due sum_owed due_own c]
  unfold due creds
  exact (cred_add _ _).1.trans (sep_mono_right ((cred_add _ _).1.trans (BIClass.sep_mono (cred_steps _) (cred_steps _))))

end Cert.KernelIdeal.Moe
-- ==== Proof.Launch.lean ====
module

public import proofs.«01_k».proof.Proof.Start
public import Idealize.ShloMosaic.Lib.Pipeline.CollectiveSegs

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

/-- The four arrays of semaphores are the kernel's own and distinct from the pipeline's. -/
theorem ownSemFacts : Pipeline.OwnSemFacts cfg0.spec osem := by decide +kernel

/-- Every operand is held whole. -/
theorem share_eq (c : Dev nD) (w : Fin cfg0.W) : (dats m 0 c).share w = fullShare := by unfold Dat.share; split <;> rfl

/-- Device `c`'s part of the start: its records, places and tokens, and the right to what it is owed. -/
def start (c : Dev nD) : sProp 𝕄 := iprop((∃ K, ghost m K c) ∗ creds c)

/-- The shared records, a device's places and tokens and the order of waits make up its ghost state. -/
theorem ghost_intro (K : Dev nD × Key → ℕ) (c : Dev nD) : iprop(known m K ∗ held c ∗ levAts L lv) ⊢ ghost m K c := by
  unfold known held ghost recs payToks
  rw [bigSep_key]
  iintro ⟨⟨HI, HR⟩, ⟨⟨Hb, Ha⟩, H0, H1, H2, H3, H4⟩, Hl⟩
  isplitl [HI HR Hl]
  · isplitl [HI]; · iexact HI
    isplitl [HR] <;> iassumption
  isplitl [Hb]; · iexact Hb
  isplitl [Ha]; · iexact Ha
  isplitl [H0]; · iexact H0
  isplitl [H1]; · iexact H1
  isplitl [H2]; · iexact H2
  isplitl [H3] <;> iassumption

/-- The launch's resources become the device's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  icases HG with ⟨%K, Hk, Hh⟩
  isplitl
  · isplitl [Hk Hh Hlev]
    · iexists K
      iapply (ghost_intro m K c)
      isplitl [Hk]; · iexact Hk
      isplitl [Hh] <;> iassumption
    iexact Hc
  · iempintro

/-- The start and the scratch buffers are what the body's invariant says at first; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨Hs, -, Ha, Hr⟩
  isplitl [Hs]; · iexact Hs
  isplitl [Ha]; · iexact Ha
  iexact Hr

/-- what it says at last gives every semaphore back at zero, and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨⟨Ha, Hr⟩, Hz, HzB⟩
  isplitl [HzB]; · iexact HzB
  isplitl [Hz]; · iexact Hz
  isplitl [Ha]; · iexact Ha
  iexact Hr

/-- The pipeline's own waits come before everything a device owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What operand `w`'s array on device `c` holds at the end. -/
def finalA (c : Dev nD) (w : Fin cfg0.W) : Buf (Elt F) ((cfg0.win w).arr.view.loc (c : Thread nD τ)) := (dats m 0 c).arrAt w cfg0.N

/-- What the memory holds at the end: every operand's array its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 65536 in
/-- From any memory, with every semaphore at zero, all 32 devices run to the end; every operand's array then holds
    `finalA`, and every semaphore is at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- An operand's one window is the whole array. -/
theorem blk_x (f : (main_arg0 : Ref sig .tc).ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
theorem blk_rw (f : (main_arg1 : Ref sig .tc).ty.Contents (Elt F)) : (win0_1.blk (0 : Fin 1)).view.read (Elt F) f = f :=
  Memref.read_access_unit_zero (Elt F) main_arg1 (off := fun a => (win0_1.index (0 : Fin 1)) a * main_arg1.ty.shape.size a)
    (funext fun a => by fin_cases a <;> decide) (fun a => by fin_cases a <;> decide) f
theorem blk_ix (f : (main_arg2 : Ref sig .tc).ty.Contents (Elt F)) : (win0_2.blk (0 : Fin 1)).view.read (Elt F) f = f :=
  Memref.read_access_unit_zero (Elt F) main_arg2 (off := fun a => (win0_2.index (0 : Fin 1)) a * main_arg2.ty.shape.size a)
    (funext fun a => by fin_cases a <;> decide) (fun a => by fin_cases a <;> decide) f
theorem blk_ew (f : (main_arg3 : Ref sig .tc).ty.Contents (Elt F)) : (win0_3.blk (0 : Fin 1)).view.read (Elt F) f = f :=
  Memref.read_access_unit_zero (Elt F) main_arg3 (off := fun a => (win0_3.index (0 : Fin 1)) a * main_arg3.ty.shape.size a)
    (funext fun a => by fin_cases a <;> decide) (fun a => by fin_cases a <;> decide) f
theorem blk_sw (f : (main_arg4 : Ref sig .tc).ty.Contents (Elt F)) : (win0_4.blk (0 : Fin 1)).view.read (Elt F) f = f :=
  Memref.read_access_unit_zero (Elt F) main_arg4 (off := fun a => (win0_4.index (0 : Fin 1)) a * main_arg4.ty.shape.size a)
    (funext fun a => by fin_cases a <;> decide) (fun a => by fin_cases a <;> decide) f
/-- So is the result's. -/
theorem blk_out (f : (main_v1 : Ref sig .tc).ty.Contents (Elt F)) : (win0_5.blk (0 : Fin 1)).view.read (Elt F) f = f :=
  Memref.read_access_unit_zero (Elt F) main_v1 (off := fun a => (win0_5.index (0 : Fin 1)) a * main_v1.ty.shape.size a)
    (funext fun a => by fin_cases a <;> decide) (fun a => by fin_cases a <;> decide) f

/-- The result's array ends as the body left the result's buffer. -/
theorem finalA_out (c : Dev nD) : finalA m c (5 : Fin 6) = outB m := by
  have h : (win0_5.blk (0 : Fin 1)).view.read (Elt F) (finalA m c (5 : Fin 6)) = outB m := by
    unfold finalA
    rw [show cfg0.N = ((0 : Fin 1) : Fin cfg0.N).val + 1 from rfl, (dats m 0 c).arrAt_succ (5 : Fin 6) (0 : Fin 1),
      if_pos (flush0_5 (0 : Fin 1))]
    exact View.read_write_univ _ _
  exact (blk_out _).symm.trans h

/-- All 32 devices run to the end; each then holds the result and its operands as they were, and every semaphore is at zero. -/
theorem run_values : θ_run defs (onTc (τ := τ) (main (F := F))) ⟨m, fun _ => 0, ρ⟩ (fun r => (∀ c : Dev nD,
      r.2.mem ((c.tc : Thread nD τ).loc main_v1) = outB m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (finalA_out m c),
      (h.1 c (0 : Fin 6)).trans ((dats m 0 c).arrAt_in (0 : Fin 6) rfl _), (h.1 c (1 : Fin 6)).trans ((dats m 0 c).arrAt_in (1 : Fin 6) rfl _),
      (h.1 c (2 : Fin 6)).trans ((dats m 0 c).arrAt_in (2 : Fin 6) rfl _), (h.1 c (3 : Fin 6)).trans ((dats m 0 c).arrAt_in (3 : Fin 6) rfl _),
      (h.1 c (4 : Fin 6)).trans ((dats m 0 c).arrAt_in (4 : Fin 6) rfl _)⟩, h.2⟩) (run_main m ρ)

end Cert.KernelIdeal.Moe
-- ==== Proof.Softmax.lean ====
module

public import Idealize.ShloMosaic.Lib.Pointwise

@[expose] public section

noncomputable section

/-! A token's probability of each expert, as both programs compute it: the softmax of its 64 scores. -/

namespace Cert.Softmax

open Idealize.ShloMosaic

variable (x : Fin 256 → EReal) (w : Fin 256 → Fin 64 → EReal)

/-- A token's score for an expert. -/
def score (e : Fin 64) : EReal := ∑ k, x k * w k e

/-- The largest of a token's scores. -/
def top : EReal := Finset.fold max (Ideal.ofBits FTy.f32 0xFF800000#32) (score x w) Finset.univ

/-- A score's exponential, taken below the largest. -/
def raised (e : Fin 64) : EReal := Ideal.exp (score x w e - top x w)

/-- A token's probability of an expert. -/
def chance (e : Fin 64) : EReal := Ideal.div (raised x w e) (∑ e', raised x w e')

end Cert.Softmax
-- ==== Proof.Value.lean ====
module

public import proofs.«01_k».proof.Proof.Launch
public import proofs.«01_k».proof.Proof.Softmax
public import Idealize.ShloMosaic.Lib.LayoutAt

@[expose] public section

set_option maxRecDepth 16384

noncomputable section

/-! What the kernel's result is at an index, over the extended reals. -/

namespace Cert.KernelIdeal.Moe

open Cert.KernelIdeal Cert.KernelIdeal.Gen
open Idealize.ShloMosaic

section Payloads

variable (x : FVec Ideal S512x256 .f32) (rw : FVec Ideal S256x64 .f32) (ix : IVec S512x1 32) (e0 e1 : FVec Ideal S1x256x512 .f32)
  (d : Dev nD)

/-- The kernel's softmax at an index. -/
theorem prob_apply (i : Fin 512) (e : Fin 64) :
    k0_pay2 (F := Ideal) x rw (ix2 i e) = Softmax.chance (fun k => x (ix2 i k)) (fun k e => rw (ix2 k e)) e := by
  pointwise [k0_pay2, k0_pay1]
  rfl

/-- The words of a device's two experts. -/
theorem word_even (d : Dev nD) : Scalar.addi (Scalar.muli (devWord d) 2#32) 0#32 = BitVec.ofNat 32 (2 * d.val) := by
  revert d; decide
theorem word_odd (d : Dev nD) : Scalar.addi (Scalar.muli (devWord d) 2#32) 1#32 = BitVec.ofNat 32 (2 * d.val + 1) := by
  revert d; decide

/-- Comparing two small numbers' words compares the numbers. -/
theorem cmp_words (a b : Nat) (ha : a < 64) (hb : b < 64) {α : Type} (p q : α) :
    Scalar.select (IntOp.cmpi .eq (BitVec.ofNat 32 a) (BitVec.ofNat 32 b)) p q = if a = b then p else q := by
  have h : BitVec.ofNat 32 a = BitVec.ofNat 32 b ↔ a = b := by
    constructor
    · intro h
      have := congrArg BitVec.toNat h
      simpa [BitVec.toNat_ofNat, Nat.mod_eq_of_lt (show a < 4294967296 by omega), Nat.mod_eq_of_lt (show b < 4294967296 by omega)] using this
    · rintro rfl; rfl
  by_cases hab : a = b
  · subst hab
    simp [Scalar.select, IntOp.cmpi]
  · have : ¬ BitVec.ofNat 32 a = BitVec.ofNat 32 b := fun hh => hab (h.mp hh)
    have hb' : (BitVec.ofNat 32 a == BitVec.ofNat 32 b) = false := beq_false_of_ne this
    simp [Scalar.select, IntOp.cmpi, hb', hab]

/-- A sum that picks one expert's term. -/
theorem pick (f : Fin 64 → EReal) (e : Fin 64) : (∑ x : Fin 64, if x.val = e.val then f x else 0) = f e := by
  rw [Finset.sum_eq_single e (fun b _ hb => if_neg fun h => hb (Fin.ext h)) (fun h => absurd (Finset.mem_univ e) h), if_pos rfl]

/-- What a device stores for a token routed to expert `e`: the token's probability times its product with the
    expert's matrix if the expert is one of the device's two, else zero. -/
theorem acc_apply (i o : Fin 512) (e : Fin 64) (h : ix (ix2 i 0) = BitVec.ofNat 32 e.val) :
    accVal (F := Ideal) d x rw ix e0 e1 (ix2 i o)
      = (if e.val = 2 * d.val then Softmax.chance (fun k => x (ix2 i k)) (fun k e => rw (ix2 k e)) e * ∑ k, x (ix2 i k) * e0 (ix3 0 k o) else 0)
        + (if e.val = 2 * d.val + 1 then Softmax.chance (fun k => x (ix2 i k)) (fun k e => rw (ix2 k e)) e * ∑ k, x (ix2 i k) * e1 (ix3 0 k o) else 0) := by
  have hd : d.val < 32 := d.isLt
  pointwise [accVal, k0_pay6, k0_pay4, k0_pay5, k0_pay1, k0_pay3]
  simp only [word_even, word_odd, h, prob_apply, cmp_words _ _ e.isLt (show 2 * d.val < 64 by omega),
    cmp_words _ _ e.isLt (show 2 * d.val + 1 < 64 by omega), cmp_words _ _ (Fin.isLt _) (show 2 * d.val < 64 by omega),
    cmp_words _ _ (Fin.isLt _) (show 2 * d.val + 1 < 64 by omega)]
  congr 1
  · split_ifs with he
    · rw [← he, pick]
    · rfl
  · split_ifs with he
    · rw [← he, pick]
    · rfl

/-- A device's rows of the result: all devices' shares added, and the shared product. -/
theorem part_apply (xo : FVec Ideal S16x256 .f32) (sw : FVec Ideal S256x512 .f32) (rs : FVec Ideal S32x16x512 .f32)
    (i : Fin 16) (o : Fin 512) :
    k0_pay9 (F := Ideal) (k0_pay8 (F := Ideal) xo sw) rs (ix2 i o) = ∑ j, rs (ix3 j i o) + ∑ k, xo (ix2 i k) * sw (ix2 k o) := by
  pointwise [k0_pay8, k0_pay9]

end Payloads

section Read

variable (m : (ℓ : Loc nD τ sig) → Buf (Elt Ideal) ℓ)

/-- A device's two matrices, read out of its block. -/
theorem read_even (f : (cc0_stg3_0 : Ref sig .tc).ty.Contents (Elt Ideal)) (k : Fin 256) (o : Fin 512) :
    ewM.view.readAt (Elt Ideal) ewRect0.toLoadRect f (ix3 0 k o) = f (ix3 (n0 := 2) (n1 := 256) (n2 := 512) 0 k o) := by
  rw [View.readAt_apply]
  refine congrArg f (funext fun a => Fin.ext ?_)
  fin_cases a
  · rfl
  · show 0 + 1 * k.val = k.val
    omega
  · show 0 + 1 * o.val = o.val
    omega
theorem read_odd (f : (cc0_stg3_0 : Ref sig .tc).ty.Contents (Elt Ideal)) (k : Fin 256) (o : Fin 512) :
    ewM.view.readAt (Elt Ideal) ewRect1.toLoadRect f (ix3 0 k o) = f (ix3 (n0 := 2) (n1 := 256) (n2 := 512) 1 k o) := by
  rw [View.readAt_apply]
  refine congrArg f (funext fun a => Fin.ext ?_)
  fin_cases a
  · rfl
  · show 0 + 1 * k.val = k.val
    omega
  · show 0 + 1 * o.val = o.val
    omega

/-- A device's own 16 tokens, read out of all tokens. -/
theorem read_own (f : (cc0_stg0_0 : Ref sig .tc).ty.Contents (Elt Ideal)) (c : Dev nD) (r : Fin 16) (k : Fin 256) (i : Fin 512)
    (hi : i.val = 16 * c.val + r.val) :
    xM.view.readAt (Elt Ideal) (xoRect c).toLoadRect f (ix2 r k) = f (ix2 (n0 := 512) (n1 := 256) i k) := by
  rw [View.readAt_apply]
  refine congrArg f (funext fun a => Fin.ext ?_)
  fin_cases a
  · show k0_off6 c 0 + 1 * r.val = i.val
    rw [k0_off6_eq c, hi]
    simp
  · show k0_off6 c 1 + 1 * k.val = k.val
    rw [k0_off6_eq c]
    simp

/-- The result at an index, when every device holds the same tokens, router, experts' numbers and shared matrix,
    and its own two of the 64 experts' matrices. -/
theorem out_apply (x : FVec Ideal S512x256 .f32) (rw : FVec Ideal S256x64 .f32) (ix : IVec S512x1 32)
    (ew : Fin 64 → Fin 256 → Fin 512 → EReal) (sw : FVec Ideal S256x512 .f32)
    (hx : ∀ c : Dev nD, m ((c.tc : Thread nD τ).loc main_arg0) = x) (hrw : ∀ c : Dev nD, m ((c.tc : Thread nD τ).loc main_arg1) = rw)
    (hix : ∀ c : Dev nD, m ((c.tc : Thread nD τ).loc main_arg2) = ix)
    (own : Dev nD → FVec Ideal S2x256x512 .f32) (hown : ∀ c : Dev nD, m ((c.tc : Thread nD τ).loc main_arg3) = own c)
    (he0 : ∀ (c : Dev nD) (e : Fin 64) k o, e.val = 2 * c.val → own c (ix3 (n0 := 2) (n1 := 256) (n2 := 512) 0 k o) = ew e k o)
    (he1 : ∀ (c : Dev nD) (e : Fin 64) k o, e.val = 2 * c.val + 1 → own c (ix3 (n0 := 2) (n1 := 256) (n2 := 512) 1 k o) = ew e k o)
    (hsw : ∀ c : Dev nD, m ((c.tc : Thread nD τ).loc main_arg4) = sw)
    (i o : Fin 512) (e : Fin 64) (h : ix (ix2 i 0) = BitVec.ofNat 32 e.val) :
    outB m (ix2 (n0 := 512) (n1 := 512) i o)
      = Softmax.chance (fun k => x (ix2 i k)) (fun k e => rw (ix2 k e)) e * (∑ k, x (ix2 i k) * ew e k o) + ∑ k, x (ix2 i k) * sw (ix2 k o) := by
  have hi : i.val < 512 := i.isLt
  have hacc : ∀ c : Dev nD, accB m c (ix2 (n0 := 512) (n1 := 512) i o)
      = if c.val = e.val / 2 then Softmax.chance (fun k => x (ix2 i k)) (fun k e => rw (ix2 k e)) e * (∑ k, x (ix2 i k) * ew e k o) else 0 := by
    intro c
    unfold accB xC rwC ixC ewC
    rw [blk_x, blk_rw, blk_ix, blk_ew, hx, hrw, hix, hown, acc_apply _ _ _ _ _ _ _ _ e h]
    by_cases h0 : e.val = 2 * c.val
    · rw [if_pos h0, if_neg (by omega), if_pos (by omega), add_zero]
      exact congrArg (_ * ·) (Finset.sum_congr rfl fun k _ => congrArg (x (ix2 i k) * ·) ((read_even (own c) k o).trans (he0 c e k o h0)))
    · by_cases h1 : e.val = 2 * c.val + 1
      · rw [if_neg h0, if_pos h1, if_pos (by omega), zero_add]
        exact congrArg (_ * ·) (Finset.sum_congr rfl fun k _ => congrArg (x (ix2 i k) * ·) ((read_odd (own c) k o).trans (he1 c e k o h1)))
      · rw [if_neg h0, if_neg h1, if_neg (by omega), add_zero]
  have hrow : ∀ j : Fin 32, rsB m (ownerOf (ix2 (n0 := 512) (n1 := 512) i o)) (ix3 j (⟨i.val % 16, Nat.mod_lt _ (by decide)⟩ : Fin 16) o)
      = accB m j (ix2 (n0 := 512) (n1 := 512) i o) := by
    intro j
    refine congrArg (accB m j) (funext fun a => Fin.ext ?_)
    fin_cases a
    · show 16 * (i.val / 16) + i.val % 16 = i.val
      omega
    · rfl
  show partB m (ownerOf (ix2 (n0 := 512) (n1 := 512) i o)) (ix2 (⟨i.val % 16, Nat.mod_lt _ (by decide)⟩ : Fin 16) o) = _
  unfold partB xC swC
  rw [blk_x, blk_sw, hx, hsw, part_apply]
  simp only [hrow, hacc]
  congr 1
  · rw [Finset.sum_eq_single (⟨e.val / 2, by omega⟩ : Fin 32) (fun b _ hb => if_neg fun h => hb (Fin.ext h))
      (fun h => absurd (Finset.mem_univ _) h), if_pos rfl]
  · refine Finset.sum_congr rfl fun k _ => ?_
    rw [read_own _ _ _ _ i (by show i.val = 16 * (i.val / 16) + i.val % 16; omega)]

end Read

end Cert.KernelIdeal.Moe
-- ==== Proof.Layer.lean ====
module

public import proofs.«01_k».proof.Proof.Gen.ReferenceIdeal
public import proofs.«01_k».proof.Proof.Softmax

@[expose] public section

set_option maxRecDepth 16384

noncomputable section

namespace Cert.ReferenceIdeal.Moe

open Cert.ReferenceIdeal Cert.ReferenceIdeal.Gen
open Idealize.ShloMosaic

variable (x : FVec Ideal S512x256 .f32) (rw : FVec Ideal S256x64 .f32) (ix : IVec S512x1 32) (ew : FVec Ideal S64x256x512 .f32)
  (sw : FVec Ideal S256x512 .f32)

/-- A token's score for each expert. -/
def scores : FVec Ideal S512x64 .f32 := Host.dotGeneral dot_S512x256_S256x64_S512x64_1_0_0_1_n_n none x rw

def raised : FVec Ideal S512x64 .f32 :=
  Host.exp (subf (scores x rw) (broadcastInDim S512x64 ![0, 1] bcast_S512x1_S512x64_0_1 (broadcastInDim S512x1 ![0] bcast_S512_S512x1_0
    (Host.reduce FloatOps.maximumf (scores x rw) (constant S_ .f32 0xFF800000#32) reducesTo_S512x64_S512_d1 h_S_))))

/-- The softmax of a token's scores. -/
def probs : FVec Ideal S512x64 .f32 :=
  Host.divf (raised x rw) (broadcastInDim S512x64 ![0, 1] bcast_S512x1_S512x64_0_1 (broadcastInDim S512x1 ![0] bcast_S512_S512x1_0
    (Host.reduceAdd (raised x rw) (constant S_ .f32 0x00000000#32) reducesTo_S512x64_S512_d1 h_S_)))

/-- The experts' numbers, a negative one counted from the end. -/
def wrapped : IVec S512x1 32 :=
  select (cmpi .slt ix (broadcastInDim S512x1 ![] bcast_S_S512x1 (constantI S_ 32 0#32)))
    (addi ix (broadcastInDim S512x1 ![] bcast_S_S512x1 (constantI S_ 32 64#32))) ix

def wrapped3 : IVec S512x1x1 32 := shapeCast _ (wrapped ix) shapeCasts_S512x1_S512x1x1

/-- Whether a token's expert is one of the 64. -/
def inside : IVec S512x1 1 :=
  Host.reduce IntOp.andi (andi (cmpi .sge (wrapped3 ix) (broadcastInDim S512x1x1 ![] bcast_S_S512x1x1 (constantI S_ 32 0#32)))
    (cmpi .sle (wrapped3 ix) (broadcastInDim S512x1x1 ![0, 1, 2] bcast_S1x1x1_S512x1x1_0_1_2
      (broadcastInDim S1x1x1 ![2] bcast_S1_S1x1x1_2 (constantI S1 32 63#32))))) (constantI S_ 1 1#1) reducesTo_S512x1x1_S512x1_d2 h_S_

/-- The probability of a token's expert. -/
def gate : FVec Ideal S512x1 .f32 :=
  select (inside ix) (Host.gather gather_S512x64_S512x1x1_S512x1_n_1_0_0_1_2_11 (probs x rw) (wrapped3 ix))
    (broadcastInDim S512x1 ![] bcast_S_S512x1 (constant S_ .f32 0x7FC00000#32))

/-- The experts' numbers again, as the product's gather takes them. -/
def chosen : IVec S512x1 32 :=
  broadcastInDim S512x1 ![0] bcast_S512_S512x1_0
    (select (cmpi .slt (shapeCast _ ix shapeCasts_S512x1_S512) (broadcastInDim S512 ![] bcast_S_S512 (constantI S_ 32 0#32)))
      (addi (shapeCast _ ix shapeCasts_S512x1_S512) (broadcastInDim S512 ![] bcast_S_S512 (constantI S_ 32 64#32)))
      (shapeCast _ ix shapeCasts_S512x1_S512))

/-- Each token times its expert's matrix. -/
def expert : FVec Ideal S512x512 .f32 :=
  Host.dotGeneral dot_S512x256_S512x256x512_S512x512_1_1_n_2_0_0 none x
    (Host.gather gather_S64x256x512_S512x1_S512x256x512_12_0_n_n_0_1_1256512 ew (chosen ix))

/-- What the reference returns. -/
def layer : FVec Ideal S512x512 .f32 :=
  addf (Host.dotGeneral dot_S512x256_S256x512_S512x512_1_0_0_1_n_n none x sw)
    (mulf (broadcastInDim S512x512 ![0, 1] bcast_S512x1_S512x512_0_1 (gate x rw ix)) (expert x ix ew))

/-- A small number's word, read signed and clamped below a bound it keeps, is the number. -/
theorem clamp_word (e : Fin 64) : min (BitVec.ofNat 32 e.val).toInt.toNat 63 = e.val := by
  revert e; decide

/-- The gather along each token's row of probabilities reads the token's expert. -/
theorem gather_prob (p : FVec Ideal S512x64 .f32) (w : IVec S512x1x1 32) (i : Fin 512) (e : Fin 64)
    (h : w (ix3 i 0 0) = BitVec.ofNat 32 e.val) :
    Host.gather gather_S512x64_S512x1x1_S512x1_n_1_0_0_1_2_11 p w (ix2 i 0) = p (ix2 i e) := by
  unfold Host.gather
  refine congrArg p (funext fun a => Fin.ext ?_)
  have hs : gather_S512x64_S512x1x1_S512x1_n_1_0_0_1_2_11.siIdx (ix2 i 0) ⟨0, by decide⟩ = ix3 i 0 0 := by
    funext b
    fin_cases b <;> rfl
  fin_cases a
  · show 0 + i.val + 0 = i.val
    omega
  · show min (w (gather_S512x64_S512x1x1_S512x1_n_1_0_0_1_2_11.siIdx (ix2 i 0) ⟨0, by decide⟩)).toInt.toNat 63 + 0 + 0 = e.val
    rw [hs, h, clamp_word]; rfl

/-- The gather of the experts' matrices reads the token's expert's. -/
theorem gather_matrix (w : IVec S512x1 32) (i : Fin 512) (k : Fin 256) (o : Fin 512) (e : Fin 64)
    (h : w (ix2 i 0) = BitVec.ofNat 32 e.val) :
    Host.gather gather_S64x256x512_S512x1_S512x256x512_12_0_n_n_0_1_1256512 ew w (ix3 i k o) = ew (ix3 e k o) := by
  unfold Host.gather
  refine congrArg ew (funext fun a => Fin.ext ?_)
  have hs : gather_S64x256x512_S512x1_S512x256x512_12_0_n_n_0_1_1256512.siIdx (ix3 i k o) ⟨0, by decide⟩ = ix2 i 0 := by
    funext b
    fin_cases b <;> rfl
  fin_cases a
  · show min (w (gather_S64x256x512_S512x1_S512x256x512_12_0_n_n_0_1_1256512.siIdx (ix3 i k o) ⟨0, by decide⟩)).toInt.toNat 63 + 0 + 0 = e.val
    rw [hs, h, clamp_word]; rfl
  · show 0 + 0 + k.val = k.val
    omega
  · show 0 + 0 + o.val = o.val
    omega

/-- The reference's result at a token routed to expert `e`. -/
theorem layer_apply (i : Fin 512) (o : Fin 512) (e : Fin 64) (h : ix (ix2 i 0) = BitVec.ofNat 32 e.val) :
    layer x rw ix ew sw (ix2 i o)
      = ∑ k, x (ix2 i k) * sw (ix2 k o) + probs x rw (ix2 i e) * ∑ k, x (ix2 i k) * ew (ix3 e k o) := by
  have hlt : IntOp.cmpi .slt (ix (ix2 i 0)) 0#32 = 0#1 := by rw [h]; clear * -; revert e; decide
  have hge : IntOp.cmpi .sge (ix (ix2 i 0)) 0#32 = 1#1 := by rw [h]; clear * -; revert e; decide
  have hle : IntOp.cmpi .sle (ix (ix2 i 0)) 63#32 = 1#1 := by rw [h]; clear * -; revert e; decide
  have hw : wrapped3 ix (ix3 i 0 0) = BitVec.ofNat 32 e.val := by
    pointwise [wrapped3, wrapped]
    rw [hlt, h]
    rfl
  have hc : chosen ix (ix2 i 0) = BitVec.ofNat 32 e.val := by
    pointwise [chosen]
    rw [hlt, h]
    rfl
  have hin : inside ix (ix2 i 0) = 1#1 := by
    pointwise [inside, wrapped3, wrapped]
    have hs : Scalar.select (0#1) (IntOp.addi (ix (ix2 i 0)) 64#32) (ix (ix2 i 0)) = ix (ix2 i 0) := rfl
    simp only [hlt, hs, hge, hle]
    decide
  pointwise [layer, expert, gate]
  rw [hin, gather_prob _ _ i e hw]
  simp only [gather_matrix ew _ i _ o e hc]
  rfl

/-- The softmax at an index. -/
theorem probs_apply (i : Fin 512) (e : Fin 64) : probs x rw (ix2 i e) = Softmax.chance (fun k => x (ix2 i k)) (fun k e => rw (ix2 k e)) e := by
  pointwise [probs, raised, scores]
  rfl

end Cert.ReferenceIdeal.Moe
-- ==== Proof.Agree.lean ====
module

public import proofs.«01_k».proof.Pre_routed_KernelIdeal
public import proofs.«01_k».proof.Proof.Value
public import proofs.«01_k».proof.Proof.Layer
public import Idealize.ShloMosaic.Lib.Tactic.WordOmega

@[expose] public section

set_option maxRecDepth 16384

noncomputable section

/-! The kernel's result is the reference's, for tokens routed to experts that exist. -/

namespace Cert.Agree

open Idealize.ShloMosaic
open Cert.KernelIdeal (nD τ sig main_arg0 main_arg1 main_arg2 main_arg3 main_arg4)

/-- A word that compares as at least 0 and below 64, signed, is one of the numbers below 64. -/
theorem word_small (w : BitVec 32) (h : IntOp.andi (IntOp.cmpi .sge w 0#32) (IntOp.cmpi .slt w 64#32) = 1#1) :
    ∃ e : Fin 64, w = BitVec.ofNat 32 e.val := by
  have hlt : w.toNat < 64 := by
    word_omega
  exact ⟨⟨w.toNat, hlt⟩, by simp⟩

/-- The precondition says so of every token. -/
theorem routed_small [hpre : Cert.Pre_routed_KernelIdeal.Facts] (a0 : FVec Ideal ⟨2, ![512, 256]⟩ .f32) (a1 : FVec Ideal ⟨2, ![256, 64]⟩ .f32)
    (a2 : IVec ⟨2, ![512, 1]⟩ 32) (a3 : FVec Ideal ⟨3, ![2, 256, 512]⟩ .f32) (a4 : FVec Ideal ⟨2, ![256, 512]⟩ .f32)
    (h : Cert.Pre_routed_KernelIdeal.fn (F := Ideal) a0 a1 a2 a3 a4 = fun _ => 1#1) (i : Fin 512) :
    ∃ e : Fin 64, a2 (ix2 i 0) = BitVec.ofNat 32 e.val := by
  refine word_small _ ?_
  have hi := congrFun h (ix2 i 0)
  rw [← hi]
  rfl

variable (m : (ℓ : Loc nD τ sig) → Buf (Elt Ideal) ℓ)

/-- The kernel's result is the reference's term of the whole arrays. -/
theorem agree (x : FVec Ideal ⟨2, ![512, 256]⟩ .f32) (rw : FVec Ideal ⟨2, ![256, 64]⟩ .f32) (ix : IVec ⟨2, ![512, 1]⟩ 32)
    (ew : FVec Ideal ⟨3, ![64, 256, 512]⟩ .f32) (sw : FVec Ideal ⟨2, ![256, 512]⟩ .f32)
    (hx : ∀ c : Dev nD, m ((c.tc : Thread nD τ).loc main_arg0) = x) (hrw : ∀ c : Dev nD, m ((c.tc : Thread nD τ).loc main_arg1) = rw)
    (hix : ∀ c : Dev nD, m ((c.tc : Thread nD τ).loc main_arg2) = ix)
    (hew : ∀ c : Dev nD, m ((c.tc : Thread nD τ).loc main_arg3) = Layout.block ⟨3, ![2, 256, 512]⟩ ⟨3, ![64, 256, 512]⟩ 0 32 c ew)
    (hsw : ∀ c : Dev nD, m ((c.tc : Thread nD τ).loc main_arg4) = sw)
    (hsmall : ∀ i : Fin 512, ∃ e : Fin 64, ix (ix2 i 0) = BitVec.ofNat 32 e.val) :
    Cert.KernelIdeal.Moe.outB m = Cert.ReferenceIdeal.Moe.layer x rw ix ew sw := by
  refine funext fun (y : (⟨2, ![512, 512]⟩ : Shape).Idx) => ?_
  obtain ⟨i, o, rfl⟩ : ∃ (i : Fin 512) (o : Fin 512), y = ix2 i o := ⟨y 0, y 1, eq_ix2 y⟩
  obtain ⟨e, he⟩ := hsmall i
  refine (Cert.KernelIdeal.Moe.out_apply m x rw ix (fun e k o => ew (ix3 e k o)) sw hx hrw hix _ hew ?_ ?_ hsw i o e he).trans ?_
  · intro c e k o h
    refine congrArg ew ?_
    shard_ext
  · intro c e k o h
    refine congrArg ew ?_
    shard_ext
  · rw [Cert.ReferenceIdeal.Moe.layer_apply x rw ix ew sw i o e he, Cert.ReferenceIdeal.Moe.probs_apply, add_comm]

end Cert.Agree
-- ==== Proof.lean ====
module

public import proofs.«01_k».proof.Defs
public import proofs.«01_k».proof.Proof.Launch
public import proofs.«01_k».proof.Proof.Printed.Launch
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import Idealize.ShloMosaic.Lib.Quiescent

@[expose] public section

noncomputable section

namespace Cert.Proof

open Idealize.ShloMosaic Idealize.SL.Sem

/-- The kernel as printed runs to the end, its operands unchanged and every semaphore back at zero. -/
theorem frame_kernel : Cert.quiescent_Kernel (hKernel := Cert.Kernel.Gen.facts) := by
  intro m ρ _
  exact (θ_run _ _ _).mono (fun _ h => ⟨fun c => (h.1 c).2, h.2⟩) (Cert.Kernel.Moe.run_values (F := Bits) m ρ)

/-- So does the kernel over the extended reals. -/
theorem frame_ideal : Cert.quiescent_KernelIdeal (hKernelIdeal := Cert.KernelIdeal.Gen.facts) := by
  intro m ρ _
  exact (θ_run _ _ _).mono (fun _ h => ⟨fun c => (h.1 c).2, h.2⟩) (Cert.KernelIdeal.Moe.run_values (F := Ideal) m ρ)

/-- So does the reference, which has no semaphores. -/
theorem frame_reference : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

/-- The kernel over the extended reals ends with the reference's result on every device, when every token is routed
    to one of the 64 experts. -/
theorem value : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m g m' g' hpre hargs
  have hsmall := fun i => Cert.Agree.routed_small (hpre := Cert.Pre_routed_KernelIdeal.Gen.facts) _ _ _ _ _ (hpre 0) i
  have hagree := Cert.Agree.agree m _ _ _ _ _ (fun c => (hargs c).1) (fun c => (hargs c).2.1) (fun c => (hargs c).2.2.1)
    (fun c => (hargs c).2.2.2.1) (fun c => (hargs c).2.2.2.2) (fun i => by
      obtain ⟨e, he⟩ := hsmall i
      exact ⟨e, (congrFun (hargs 0).2.2.1 _).symm.trans he⟩)
  refine ⟨_, (θ_run _ _ _).mono (fun r h c => ⟨(h.1 c).1.trans hagree, (h.1 c).2⟩) (Cert.KernelIdeal.Moe.run_values (F := Ideal) m g),
    (θ_run _ _ _).mono (fun r h => ⟨(h 0).1.trans ?_, (h 0).2⟩) (Cert.ReferenceIdeal.Value.run (F := Ideal) m' g')⟩
  rfl

/-- The kernel is correct: it runs to the end and cleans up after itself, its idealization is its own text, and over
    the extended reals it returns what the reference does. -/
theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  frame_kernel, frame_ideal, fun m ρ _ => frame_ideal m ρ trivial, frame_reference, fun m ρ _ => frame_reference m ρ trivial,
  trivial, value⟩

end Cert.Proof

end
